-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S2x512x1024 : Shape := ⟨3, ![2, 512, 1024]⟩
abbrev S8192x1024 : Shape := ⟨2, ![8192, 1024]⟩
abbrev S16 : Shape := ⟨1, ![16]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S2x512x1024, .f32⟩
  | .local _ .vmem, ⟨1, _⟩ => ⟨S8192x1024, .bf16⟩
  | .local _ .vmem, ⟨2, _⟩ => ⟨S8192x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  (ofTc nBuf bufTy 2 96 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v17 : BitVec 32 := Scalar.muli v5 c8192_i32
  let v18 : BitVec 32 := Scalar.addi v17 c0_i32_12
  let c0_i32_17 : BitVec 32 := 0#32
  ![v18.toNat, 0]
def k0_dev3 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v42 : BitVec 32 := Scalar.muli v6 c2_i32_35
  let v43 : BitVec 32 := Scalar.addi c0_i32_36 v42
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v44 : BitVec 32 := Scalar.muli v5 c1_i32_37
  let v45 : BitVec 32 := Scalar.addi v43 v44
  v45.toNat
def k0_dev4 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v70 : BitVec 32 := Scalar.muli v6 c2_i32_58
  let v71 : BitVec 32 := Scalar.addi c0_i32_59 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v72 : BitVec 32 := Scalar.muli v5 c1_i32_60
  let v73 : BitVec 32 := Scalar.addi v71 v72
  v73.toNat
def k0_dev5 (d0 : Dev nD) : Nat :=
  let c0_i32_82 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_81 : BitVec 32 := 2#32
  let v98 : BitVec 32 := Scalar.muli v6 c2_i32_81
  let v99 : BitVec 32 := Scalar.addi c0_i32_82 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let v100 : BitVec 32 := Scalar.muli v5 c1_i32_83
  let v101 : BitVec 32 := Scalar.addi v99 v100
  v101.toNat
def k0_dev6 (d0 : Dev nD) : Nat :=
  let c0_i32_105 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_104 : BitVec 32 := 2#32
  let v126 : BitVec 32 := Scalar.muli v6 c2_i32_104
  let v127 : BitVec 32 := Scalar.addi c0_i32_105 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v128 : BitVec 32 := Scalar.muli v5 c1_i32_106
  let v129 : BitVec 32 := Scalar.addi v127 v128
  v129.toNat
def k0_dev7 (d0 : Dev nD) : Nat :=
  let c0_i32_128 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_127 : BitVec 32 := 2#32
  let v154 : BitVec 32 := Scalar.muli v6 c2_i32_127
  let v155 : BitVec 32 := Scalar.addi c0_i32_128 v154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_129 : BitVec 32 := 1#32
  let v156 : BitVec 32 := Scalar.muli v5 c1_i32_129
  let v157 : BitVec 32 := Scalar.addi v155 v156
  v157.toNat
def k0_dev8 (d0 : Dev nD) : Nat :=
  let c0_i32_151 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_150 : BitVec 32 := 2#32
  let v182 : BitVec 32 := Scalar.muli v6 c2_i32_150
  let v183 : BitVec 32 := Scalar.addi c0_i32_151 v182
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_152 : BitVec 32 := 1#32
  let v184 : BitVec 32 := Scalar.muli v5 c1_i32_152
  let v185 : BitVec 32 := Scalar.addi v183 v184
  v185.toNat
def k0_dev9 (d0 : Dev nD) : Nat :=
  let c0_i32_174 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_173 : BitVec 32 := 2#32
  let v210 : BitVec 32 := Scalar.muli v6 c2_i32_173
  let v211 : BitVec 32 := Scalar.addi c0_i32_174 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_175 : BitVec 32 := 1#32
  let v212 : BitVec 32 := Scalar.muli v5 c1_i32_175
  let v213 : BitVec 32 := Scalar.addi v211 v212
  v213.toNat
def k0_dev10 (d0 : Dev nD) : Nat :=
  let c0_i32_197 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_196 : BitVec 32 := 2#32
  let v238 : BitVec 32 := Scalar.muli v6 c2_i32_196
  let v239 : BitVec 32 := Scalar.addi c0_i32_197 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_198 : BitVec 32 := 1#32
  let v240 : BitVec 32 := Scalar.muli v5 c1_i32_198
  let v241 : BitVec 32 := Scalar.addi v239 v240
  v241.toNat
def k0_dev11 (d0 : Dev nD) : Nat :=
  let c0_i32_220 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_219 : BitVec 32 := 2#32
  let v266 : BitVec 32 := Scalar.muli v6 c2_i32_219
  let v267 : BitVec 32 := Scalar.addi c0_i32_220 v266
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v268 : BitVec 32 := Scalar.muli v5 c1_i32_221
  let v269 : BitVec 32 := Scalar.addi v267 v268
  v269.toNat
def k0_dev12 (d0 : Dev nD) : Nat :=
  let c0_i32_243 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_242 : BitVec 32 := 2#32
  let v294 : BitVec 32 := Scalar.muli v6 c2_i32_242
  let v295 : BitVec 32 := Scalar.addi c0_i32_243 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v296 : BitVec 32 := Scalar.muli v5 c1_i32_244
  let v297 : BitVec 32 := Scalar.addi v295 v296
  v297.toNat
def k0_dev13 (d0 : Dev nD) : Nat :=
  let c0_i32_266 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_265 : BitVec 32 := 2#32
  let v322 : BitVec 32 := Scalar.muli v6 c2_i32_265
  let v323 : BitVec 32 := Scalar.addi c0_i32_266 v322
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_267 : BitVec 32 := 1#32
  let v324 : BitVec 32 := Scalar.muli v5 c1_i32_267
  let v325 : BitVec 32 := Scalar.addi v323 v324
  v325.toNat
def k0_dev14 (d0 : Dev nD) : Nat :=
  let c0_i32_289 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_288 : BitVec 32 := 2#32
  let v350 : BitVec 32 := Scalar.muli v6 c2_i32_288
  let v351 : BitVec 32 := Scalar.addi c0_i32_289 v350
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_290 : BitVec 32 := 1#32
  let v352 : BitVec 32 := Scalar.muli v5 c1_i32_290
  let v353 : BitVec 32 := Scalar.addi v351 v352
  v353.toNat
def k0_dev15 (d0 : Dev nD) : Nat :=
  let c0_i32_312 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_311 : BitVec 32 := 2#32
  let v378 : BitVec 32 := Scalar.muli v6 c2_i32_311
  let v379 : BitVec 32 := Scalar.addi c0_i32_312 v378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_313 : BitVec 32 := 1#32
  let v380 : BitVec 32 := Scalar.muli v5 c1_i32_313
  let v381 : BitVec 32 := Scalar.addi v379 v380
  v381.toNat
def k0_dev16 (d0 : Dev nD) : Nat :=
  let c0_i32_335 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_334 : BitVec 32 := 2#32
  let v406 : BitVec 32 := Scalar.muli v6 c2_i32_334
  let v407 : BitVec 32 := Scalar.addi c0_i32_335 v406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_336 : BitVec 32 := 1#32
  let v408 : BitVec 32 := Scalar.muli v5 c1_i32_336
  let v409 : BitVec 32 := Scalar.addi v407 v408
  v409.toNat
def k0_dev17 (d0 : Dev nD) : Nat :=
  let c0_i32_358 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_357 : BitVec 32 := 2#32
  let v434 : BitVec 32 := Scalar.muli v6 c2_i32_357
  let v435 : BitVec 32 := Scalar.addi c0_i32_358 v434
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v436 : BitVec 32 := Scalar.muli v5 c1_i32_359
  let v437 : BitVec 32 := Scalar.addi v435 v436
  v437.toNat
def k0_dev18 (d0 : Dev nD) : Nat :=
  let c0_i32_377 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_376 : BitVec 32 := 2#32
  let v456 : BitVec 32 := Scalar.muli v6 c2_i32_376
  let v457 : BitVec 32 := Scalar.addi c0_i32_377 v456
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_378 : BitVec 32 := 1#32
  let v458 : BitVec 32 := Scalar.muli v5 c1_i32_378
  let v459 : BitVec 32 := Scalar.addi v457 v458
  v459.toNat
def k0_dev19 (d0 : Dev nD) : Nat :=
  let c0_i32_402 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_401 : BitVec 32 := 2#32
  let v481 : BitVec 32 := Scalar.muli v2 c2_i32_401
  let v482 : BitVec 32 := Scalar.addi c0_i32_402 v481
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_403 : BitVec 32 := 1#32
  let v483 : BitVec 32 := Scalar.muli v7 c1_i32_403
  let v484 : BitVec 32 := Scalar.addi v482 v483
  v484.toNat
def k0_dev20 (d0 : Dev nD) : Nat :=
  let c0_i32_431 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_430 : BitVec 32 := 2#32
  let v511 : BitVec 32 := Scalar.muli v2 c2_i32_430
  let v512 : BitVec 32 := Scalar.addi c0_i32_431 v511
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_432 : BitVec 32 := 1#32
  let v513 : BitVec 32 := Scalar.muli v7 c1_i32_432
  let v514 : BitVec 32 := Scalar.addi v512 v513
  v514.toNat
def k0_dev21 (d0 : Dev nD) : Nat :=
  let c0_i32_460 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_459 : BitVec 32 := 2#32
  let v541 : BitVec 32 := Scalar.muli v2 c2_i32_459
  let v542 : BitVec 32 := Scalar.addi c0_i32_460 v541
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_461 : BitVec 32 := 1#32
  let v543 : BitVec 32 := Scalar.muli v7 c1_i32_461
  let v544 : BitVec 32 := Scalar.addi v542 v543
  v544.toNat
def k0_dev22 (d0 : Dev nD) : Nat :=
  let c0_i32_489 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_488 : BitVec 32 := 2#32
  let v571 : BitVec 32 := Scalar.muli v2 c2_i32_488
  let v572 : BitVec 32 := Scalar.addi c0_i32_489 v571
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_490 : BitVec 32 := 1#32
  let v573 : BitVec 32 := Scalar.muli v7 c1_i32_490
  let v574 : BitVec 32 := Scalar.addi v572 v573
  v574.toNat
def k0_dev23 (d0 : Dev nD) : Nat :=
  let c0_i32_518 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_517 : BitVec 32 := 2#32
  let v601 : BitVec 32 := Scalar.muli v2 c2_i32_517
  let v602 : BitVec 32 := Scalar.addi c0_i32_518 v601
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_519 : BitVec 32 := 1#32
  let v603 : BitVec 32 := Scalar.muli v7 c1_i32_519
  let v604 : BitVec 32 := Scalar.addi v602 v603
  v604.toNat
def k0_dev24 (d0 : Dev nD) : Nat :=
  let c0_i32_547 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_546 : BitVec 32 := 2#32
  let v631 : BitVec 32 := Scalar.muli v2 c2_i32_546
  let v632 : BitVec 32 := Scalar.addi c0_i32_547 v631
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_548 : BitVec 32 := 1#32
  let v633 : BitVec 32 := Scalar.muli v7 c1_i32_548
  let v634 : BitVec 32 := Scalar.addi v632 v633
  v634.toNat
def k0_dev25 (d0 : Dev nD) : Nat :=
  let c0_i32_576 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_575 : BitVec 32 := 2#32
  let v661 : BitVec 32 := Scalar.muli v2 c2_i32_575
  let v662 : BitVec 32 := Scalar.addi c0_i32_576 v661
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_577 : BitVec 32 := 1#32
  let v663 : BitVec 32 := Scalar.muli v7 c1_i32_577
  let v664 : BitVec 32 := Scalar.addi v662 v663
  v664.toNat
def k0_dev26 (d0 : Dev nD) : Nat :=
  let c0_i32_605 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_604 : BitVec 32 := 2#32
  let v691 : BitVec 32 := Scalar.muli v2 c2_i32_604
  let v692 : BitVec 32 := Scalar.addi c0_i32_605 v691
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_606 : BitVec 32 := 1#32
  let v693 : BitVec 32 := Scalar.muli v7 c1_i32_606
  let v694 : BitVec 32 := Scalar.addi v692 v693
  v694.toNat
def k0_dev27 (d0 : Dev nD) : Nat :=
  let c0_i32_634 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_633 : BitVec 32 := 2#32
  let v721 : BitVec 32 := Scalar.muli v2 c2_i32_633
  let v722 : BitVec 32 := Scalar.addi c0_i32_634 v721
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_635 : BitVec 32 := 1#32
  let v723 : BitVec 32 := Scalar.muli v7 c1_i32_635
  let v724 : BitVec 32 := Scalar.addi v722 v723
  v724.toNat
def k0_dev28 (d0 : Dev nD) : Nat :=
  let c0_i32_663 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_662 : BitVec 32 := 2#32
  let v751 : BitVec 32 := Scalar.muli v2 c2_i32_662
  let v752 : BitVec 32 := Scalar.addi c0_i32_663 v751
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_664 : BitVec 32 := 1#32
  let v753 : BitVec 32 := Scalar.muli v7 c1_i32_664
  let v754 : BitVec 32 := Scalar.addi v752 v753
  v754.toNat
def k0_dev29 (d0 : Dev nD) : Nat :=
  let c0_i32_692 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_691 : BitVec 32 := 2#32
  let v781 : BitVec 32 := Scalar.muli v2 c2_i32_691
  let v782 : BitVec 32 := Scalar.addi c0_i32_692 v781
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_693 : BitVec 32 := 1#32
  let v783 : BitVec 32 := Scalar.muli v7 c1_i32_693
  let v784 : BitVec 32 := Scalar.addi v782 v783
  v784.toNat
def k0_dev30 (d0 : Dev nD) : Nat :=
  let c0_i32_721 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_720 : BitVec 32 := 2#32
  let v811 : BitVec 32 := Scalar.muli v2 c2_i32_720
  let v812 : BitVec 32 := Scalar.addi c0_i32_721 v811
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_722 : BitVec 32 := 1#32
  let v813 : BitVec 32 := Scalar.muli v7 c1_i32_722
  let v814 : BitVec 32 := Scalar.addi v812 v813
  v814.toNat
def k0_dev31 (d0 : Dev nD) : Nat :=
  let c0_i32_750 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_749 : BitVec 32 := 2#32
  let v841 : BitVec 32 := Scalar.muli v2 c2_i32_749
  let v842 : BitVec 32 := Scalar.addi c0_i32_750 v841
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_751 : BitVec 32 := 1#32
  let v843 : BitVec 32 := Scalar.muli v7 c1_i32_751
  let v844 : BitVec 32 := Scalar.addi v842 v843
  v844.toNat
def k0_dev32 (d0 : Dev nD) : Nat :=
  let c0_i32_779 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_778 : BitVec 32 := 2#32
  let v871 : BitVec 32 := Scalar.muli v2 c2_i32_778
  let v872 : BitVec 32 := Scalar.addi c0_i32_779 v871
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_780 : BitVec 32 := 1#32
  let v873 : BitVec 32 := Scalar.muli v7 c1_i32_780
  let v874 : BitVec 32 := Scalar.addi v872 v873
  v874.toNat
def k0_dev33 (d0 : Dev nD) : Nat :=
  let c0_i32_808 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_807 : BitVec 32 := 2#32
  let v901 : BitVec 32 := Scalar.muli v2 c2_i32_807
  let v902 : BitVec 32 := Scalar.addi c0_i32_808 v901
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_809 : BitVec 32 := 1#32
  let v903 : BitVec 32 := Scalar.muli v7 c1_i32_809
  let v904 : BitVec 32 := Scalar.addi v902 v903
  v904.toNat
def k0_dev34 (d0 : Dev nD) : Nat :=
  let c0_i32_837 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_836 : BitVec 32 := 2#32
  let v931 : BitVec 32 := Scalar.muli v2 c2_i32_836
  let v932 : BitVec 32 := Scalar.addi c0_i32_837 v931
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_838 : BitVec 32 := 1#32
  let v933 : BitVec 32 := Scalar.muli v7 c1_i32_838
  let v934 : BitVec 32 := Scalar.addi v932 v933
  v934.toNat
def k0_dev35 (d0 : Dev nD) : Nat :=
  let c0_i32_1249_r0 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1248_r0 : BitVec 32 := 2#32
  let v1267_r0 : BitVec 32 := Scalar.muli v6 c2_i32_1248_r0
  let v1268_r0 : BitVec 32 := Scalar.addi c0_i32_1249_r0 v1267_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1250_r0 : BitVec 32 := 1#32
  let v1269_r0 : BitVec 32 := Scalar.muli v5 c1_i32_1250_r0
  let v1270_r0 : BitVec 32 := Scalar.addi v1268_r0 v1269_r0
  v1270_r0.toNat
def k0_dev36 (d0 : Dev nD) : Nat :=
  let c0_i32_1253_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1252_r0 : BitVec 32 := 2#32
  let v1271_r0 : BitVec 32 := Scalar.muli v2 c2_i32_1252_r0
  let v1272_r0 : BitVec 32 := Scalar.addi c0_i32_1253_r0 v1271_r0
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1254_r0 : BitVec 32 := 1#32
  let v1273_r0 : BitVec 32 := Scalar.muli v7 c1_i32_1254_r0
  let v1274_r0 : BitVec 32 := Scalar.addi v1272_r0 v1273_r0
  v1274_r0.toNat
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x16384x1024, .bf16⟩
  | .hbm, ⟨3, _⟩ => ⟨S2x16384x1024, .f32⟩
  | .hbm, ⟨4, _⟩ => ⟨S_, .f32⟩
  | .hbm, ⟨5, _⟩ => ⟨S16384x1024, .f32⟩
  | .hbm, ⟨6, _⟩ => ⟨S16384x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.KernelIdeal.Fold.lean ====
/-
The kernel's body written as three loops over the sixteen chunks of 512 rows.

The printed body is one straight line. Here its operations are named once for a chunk `k` — the load
of a chunk, the first exchange, the addition with the second exchange, the closing waits — and the body
is shown to be the line of these by definitional unfolding. Everything later is proved for one chunk.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Kit

@[expose] public section

noncomputable section

namespace Cert.KernelIdeal.Mesh

open Idealize.ShloMosaic Idealize.ShloMosaic.TcCoe
open Idealize.SL.Sem
open Cert.KernelIdeal.Gen

variable {F : FTy → Type} [FloatOps F]

/-! ## The pieces of the buffers -/

theorem chunk_inb (k : Fin 16) : ∀ a, (![512 * k.val, 0] : Fin 2 → Nat) a + S512x1024.size a ≤ S8192x1024.size a := by
  revert k; decide +kernel

theorem chunk_words (k : Fin 16) :
    (Rect.unit (s := S8192x1024) ![512 * k.val, 0] S512x1024.size (chunk_inb k)).WholeWords (EltTy.packing .bf16) := by
  revert k; decide +kernel

theorem chunk_packed (k : Fin 16) :
    (Rect.unit (s := S8192x1024) ![512 * k.val, 0] S512x1024.size (chunk_inb k)).PackedRows (EltTy.packing .bf16) := by
  revert k; decide +kernel

theorem slot_inb (k : Fin 16) :
    ∀ a, (![k.val % 2, 0, 0] : Fin 3 → Nat) a + S1x512x1024.size a ≤ S2x512x1024.size a := by
  revert k; decide +kernel

theorem semaphore_inb (k : Fin 16) : ∀ a, (![k.val] : Fin 1 → Nat) a + S1.size a ≤ S16.size a := by
  revert k; decide +kernel

/-- The rows of a half-sized buffer that chunk `k` names. -/
abbrev chunkRect (k : Fin 16) : Rect S8192x1024 := Rect.unit (s := S8192x1024) ![512 * k.val, 0] S512x1024.size (chunk_inb k)

/-- The staging slot of chunk `k`: the slots alternate. -/
abbrev slotRect (k : Fin 16) : Rect S2x512x1024 := Rect.unit (s := S2x512x1024) ![k.val % 2, 0, 0] S1x512x1024.size (slot_inb k)

/-- The rows of a full-sized buffer that chunk `k` of device `d`'s half names. -/
abbrev halfRect (d : Dev nD) (k : Fin 16) : Rect S16384x1024 :=
  Rect.unit (s := S16384x1024) (k0_off1 d (BitVec.ofNat 32 (512 * k.val))) S512x1024.size (k0_off1_inb d k)

abbrev xChunk (d : Dev nD) (k : Fin 16) : Memref sig .tc .hbm S512x1024 .f32 := (Memref.whole main_arg0).slice (halfRect d k) (fun _ => rfl)
abbrev outChunk (d : Dev nD) (k : Fin 16) : Memref sig .tc .hbm S512x1024 .bf16 := (Memref.whole main_v1).slice (halfRect d k) (fun _ => rfl)
abbrev stageSlot (k : Fin 16) : Memref sig .tc .vmem S512x1024 .f32 :=
  ((Memref.whole cc0_scratch0).slice (slotRect k) (fun _ => rfl)).squeeze S512x1024 squeezes_S1x512x1024_S512x1024
abbrev sendChunk (k : Fin 16) : Memref sig .tc .vmem S512x1024 .bf16 := (Memref.whole cc0_scratch1).slice (chunkRect k) (fun _ => rfl)
abbrev accChunk (k : Fin 16) : Memref sig .tc .vmem S512x1024 .bf16 := (Memref.whole cc0_scratch2).slice (chunkRect k) (fun _ => rfl)

theorem xChunk_exact (d : Dev nD) (k : Fin 16) : (xChunk d k).view.WordExact := View.wordExact_bits rfl
theorem stageSlot_exact (k : Fin 16) : (stageSlot k).view.WordExact := (View.wordExact_bits rfl).reshape _ _
theorem sendChunk_exact (k : Fin 16) : (sendChunk k).view.WordExact :=
  (Memref.isWhole_whole cc0_scratch1).wordExact_slice rfl (chunkRect k) (chunk_words k)
theorem accChunk_exact (k : Fin 16) : (accChunk k).view.WordExact :=
  (Memref.isWhole_whole cc0_scratch2).wordExact_slice rfl (chunkRect k) (chunk_words k)
theorem outChunk_exact (d : Dev nD) (k : Fin 16) : (outChunk d k).view.WordExact :=
  (Memref.isWhole_whole main_v1).wordExact_slice rfl (halfRect d k) (k0_off1_wordsbf16 d k)
theorem sendChunk_stores (k : Fin 16) : ((Memref.whole cc0_scratch1).view.slice (chunkRect k)).Stores Finset.univ :=
  View.stores_vmem h_S512x1024 ((Memref.isWhole_whole cc0_scratch1).storeExact_slice rfl (chunkRect k) (chunk_packed k)) (fun _ => rfl)
theorem accChunk_stores (k : Fin 16) : ((Memref.whole cc0_scratch2).view.slice (chunkRect k)).Stores Finset.univ :=
  View.stores_vmem h_S512x1024 ((Memref.isWhole_whole cc0_scratch2).storeExact_slice rfl (chunkRect k) (chunk_packed k)) (fun _ => rfl)

/-- Semaphore `k` of an array of sixteen. -/
abbrev semAt (A : DmaSems sig S16) (k : Fin 16) : DmaSem sig :=
  ((A.slice (Rect.unit (s := S16) ![k.val] S1.size (semaphore_inb k))).squeeze S_ squeezes_S1_S_).sem

abbrev barrier : Sem sig := (SemArray.scalar (sig.barrier 0 rfl) : Sems sig S_).sem
abbrev closing : Sem sig := (cc0_scoped0 : Sems sig S_).sem

/-- The device across the first mesh axis. -/
abbrev acrossX (d : Dev nD) : Dev nD := ⟨k0_dev3 d, k0_dev3_lt d⟩
/-- The device across the second mesh axis. -/
abbrev acrossY (d : Dev nD) : Dev nD := ⟨k0_dev19 d, k0_dev19_lt d⟩

/-! ## The operations at one chunk -/

abbrev P (F : FTy → Type) [FloatOps F] (α : Type) : Type 1 := Prog (TpuEff nD τ sig (Elt F) Λ₀ .tc) α

/-- What the first exchange sends: the staged chunk rounded. -/
def rounded (v : Vec F S1x512x1024 .f32) : FVec F S512x1024 .bf16 := k0_pay1 v

/-- What the second exchange sends: the landed chunk and the own one added. -/
def added (a s : Vec F S512x1024 .bf16) : FVec F S512x1024 .bf16 := k0_pay20 a s

def loadStart (d : Dev nD) (k : Fin 16) : P F PUnit :=
  Prog.lift (.enqueueDma (xChunk d k) (.here (stageSlot k)) (.dma (semAt cc0_scratch3 k)) (xChunk_exact d k) (stageSlot_exact k)
    ⟨Or.inl rfl, trivial⟩)

def stepA (d : Dev nD) (k : Fin 16) : P F PUnit := do
  Prog.lift (.waitDma2 (semAt cc0_scratch3 k) (xChunk d k) (stageSlot k) (xChunk_exact d k) (stageSlot_exact k))
  let v : Vec F S1x512x1024 .f32 ← Prog.lift (.load (Memref.whole cc0_scratch0) (slotRect k).toLoadRect (View.loadsAt_vmem h_S1x512x1024))
  let _ : Vec F S512x1024 .bf16 ← Prog.lift (.load (Memref.whole cc0_scratch1) (chunkRect k).toLoadRect (View.loadsAt_vmem h_S512x1024))
  Prog.lift (.store (Memref.whole cc0_scratch1) (chunkRect k) (rounded v) Finset.univ (sendChunk_stores k) (.inl rfl))
  Prog.lift (.enqueueDma (sendChunk k) (.remote (Dev.tc (acrossX d)) (accChunk k) (.dma (semAt cc0_scratch4 k)))
    (.dma (semAt cc0_scratch5 k)) (sendChunk_exact k) (accChunk_exact k) ⟨⟨rfl, Or.inl rfl⟩, trivial⟩)

/-- The step, and the load two chunks on where there is one. -/
def stepALoad (d : Dev nD) (k : Fin 16) : P F PUnit := do
  stepA d k
  if h : k.val + 2 < 16 then loadStart d ⟨k.val + 2, h⟩ else pure ⟨⟩

def stepB (d : Dev nD) (k : Fin 16) : P F PUnit := do
  Prog.lift (.waitDma2 (semAt cc0_scratch5 k) (sendChunk k) (accChunk k) (sendChunk_exact k) (accChunk_exact k))
  let a : Vec F S512x1024 .bf16 ← Prog.lift (.load (Memref.whole cc0_scratch2) (chunkRect k).toLoadRect (View.loadsAt_vmem h_S512x1024))
  let s : Vec F S512x1024 .bf16 ← Prog.lift (.load (Memref.whole cc0_scratch1) (chunkRect k).toLoadRect (View.loadsAt_vmem h_S512x1024))
  let _ : Vec F S512x1024 .bf16 ← Prog.lift (.load (Memref.whole cc0_scratch2) (chunkRect k).toLoadRect (View.loadsAt_vmem h_S512x1024))
  Prog.lift (.store (Memref.whole cc0_scratch2) (chunkRect k) (added a s) Finset.univ (accChunk_stores k) (.inl rfl))
  Prog.lift (.enqueueDma (accChunk k) (.remote (Dev.tc (acrossY d)) (outChunk d k) (.dma (semAt cc0_scratch6 k)))
    (.dma (semAt cc0_scratch7 k)) (accChunk_exact k) (outChunk_exact d k) ⟨⟨rfl, Or.inl rfl⟩, trivial⟩)
  Prog.lift (.enqueueDma (accChunk k) (.here (outChunk d k)) (.dma (semAt cc0_scratch8 k)) (accChunk_exact k) (outChunk_exact d k)
    ⟨Or.inl rfl, trivial⟩)

def stepC (d : Dev nD) (k : Fin 16) : P F PUnit := do
  Prog.lift (.waitDma2 (semAt cc0_scratch6 k) (outChunk d k) (accChunk k) (outChunk_exact d k) (accChunk_exact k))
  Prog.lift (.waitDma2 (semAt cc0_scratch7 k) (accChunk k) (outChunk d k) (accChunk_exact k) (outChunk_exact d k))
  Prog.lift (.waitDma2 (semAt cc0_scratch4 k) (accChunk k) (sendChunk k) (accChunk_exact k) (sendChunk_exact k))
  Prog.lift (.waitDma2 (semAt cc0_scratch8 k) (accChunk k) (outChunk d k) (accChunk_exact k) (outChunk_exact d k))

/-- Steps `j`, `j + 1`, …, `n` of them. -/
def loop (f : Fin 16 → P F PUnit) : ℕ → ℕ → P F PUnit
  | 0, _ => pure ⟨⟩
  | n + 1, j => do
    f (Fin.ofNat 16 j)
    loop f n (j + 1)

/-- Both neighbours told, and both heard. -/
def meet (s : Sem sig) (d : Dev nD) : P F PUnit := do
  semSignalWord (acrossX d) s 1#32
  semSignalWord (acrossY d) s 1#32
  semWaitWord s 2#32

/-- The body as loops. -/
def body : P F PUnit := do
  let d : Dev nD ← Prog.lift .deviceId
  meet barrier d
  loadStart d 0
  loadStart d 1
  loop (stepALoad d) 16 0
  loop (stepB d) 16 0
  loop (stepC d) 16 0
  meet closing d

set_option maxRecDepth 65536 in
set_option maxHeartbeats 4000000 in
theorem body_fold (t : Fin cfg0.N) : bodyAt0 (F := F) t = body := by
  chain_rfl

end Cert.KernelIdeal.Mesh

end
-- ==== Proof.KernelIdeal.Contents.lean ====
/-
The pieces the buffers are cut into, and what each buffer holds.

A half-sized buffer (8192 rows) is sixteen chunks of 512 rows; a full-sized one is the sixteen chunks of
the device's own half and the sixteen of its second-axis neighbour's half; the staging buffer is two slots.
The contents below are functions on whole buffers, and each transfer and each store of the kernel moves one
chunk of one of them: a chunk written with what another holds agrees on its rows with a function named here.
-/
module

public import proofs.«01_k».proof.Proof.KernelIdeal.Fold
public import Idealize.ShloMosaic.Lib.Ring
public import Idealize.ShloMosaic.Lib.ValueLayout
public import Idealize.ShloMosaic.Lib.Pointwise.ElementwiseCore

@[expose] public section

noncomputable section

namespace Cert.KernelIdeal.Mesh

open Idealize.ShloMosaic Idealize.ShloMosaic.TcCoe Idealize.ShloMosaic.ValueIdx
open Idealize.SL Idealize.SL.Sem
open Cert.KernelIdeal.Gen

variable {F : FTy → Type} [FloatOps F]

/-! ## The neighbours -/

theorem acrossX_val (c : Dev nD) : (acrossX c).val = ((c.val % 2) + 2) - 2 * (c.val / 2) := k0_dev3_eq c
theorem acrossY_val (c : Dev nD) : (acrossY c).val = (2 * (c.val / 2) + 1) - (c.val % 2) := k0_dev19_eq c
theorem acrossX_acrossX (c : Dev nD) : acrossX (acrossX c) = c := by revert c; decide +kernel
theorem acrossY_acrossY (c : Dev nD) : acrossY (acrossY c) = c := by revert c; decide +kernel
theorem acrossX_ne_acrossY (c : Dev nD) : acrossX c ≠ acrossY c := by revert c; decide +kernel
/-- The first-axis neighbour has the same half, … -/
theorem acrossX_column (c : Dev nD) : (acrossX c).val % 2 = c.val % 2 := by revert c; decide +kernel
/-- … the second-axis neighbour the other one. -/
theorem acrossY_column (c : Dev nD) : (acrossY c).val % 2 = 1 - c.val % 2 := by revert c; decide +kernel

/-! ## The cuts -/

theorem mem_chunk (k : Fin 16) (i : S8192x1024.Idx) : i ∈ (chunkRect k).set ↔ (i 0).val / 512 = k.val := by
  rw [Rect.mem_set_unit, Fin.forall_fin_two]
  have h1 : (i 1).val < 1024 := (i 1).isLt
  show (512 * k.val ≤ (i 0).val ∧ (i 0).val < 512 * k.val + 512) ∧ (0 ≤ (i 1).val ∧ (i 1).val < 0 + 1024) ↔ _
  omega

theorem mem_half (d : Dev nD) (k : Fin 16) (i : S16384x1024.Idx) :
    i ∈ (halfRect d k).set ↔ (i 0).val / 512 = 16 * (d.val % 2) + k.val := by
  rw [Rect.mem_set_unit, Fin.forall_fin_two, k0_off1_eq]
  have h1 : (i 1).val < 1024 := (i 1).isLt
  show (8192 * (d.val % 2) + 512 * k.val ≤ (i 0).val ∧ (i 0).val < 8192 * (d.val % 2) + 512 * k.val + 512)
    ∧ (0 ≤ (i 1).val ∧ (i 1).val < 0 + 1024) ↔ _
  omega

theorem mem_slot (k : Fin 16) (i : S2x512x1024.Idx) : i ∈ (slotRect k).set ↔ (i 0).val = k.val % 2 := by
  rw [Rect.mem_set_unit]
  have h1 : (i 1).val < 512 := (i 1).isLt
  have h2 : (i 2).val < 1024 := (i 2).isLt
  constructor
  · intro h
    have h0 : k.val % 2 ≤ (i 0).val ∧ (i 0).val < k.val % 2 + 1 := h 0
    omega
  · intro h a
    match a with
    | ⟨0, _⟩ => show k.val % 2 ≤ (i 0).val ∧ (i 0).val < k.val % 2 + 1; omega
    | ⟨1, _⟩ => show 0 ≤ (i 1).val ∧ (i 1).val < 0 + 512; omega
    | ⟨2, _⟩ => show 0 ≤ (i 2).val ∧ (i 2).val < 0 + 1024; omega

theorem chunks_disjoint (k k' : Fin 16) (h : k ≠ k') : Disjoint (chunkRect k).set (chunkRect k').set :=
  Finset.disjoint_left.mpr fun i hi hi' => h (Fin.ext (((mem_chunk k i).mp hi).symm.trans ((mem_chunk k' i).mp hi')))

theorem chunks_cover : Finset.univ.biUnion (fun k : Fin 16 => (chunkRect k).set) = Finset.univ := by
  refine Finset.eq_univ_iff_forall.mpr fun i => Finset.mem_biUnion.mpr ?_
  have h0 : (i 0).val < 8192 := (i 0).isLt
  exact ⟨⟨(i 0).val / 512, by omega⟩, Finset.mem_univ _, (mem_chunk _ i).mpr rfl⟩

/-- The rows of chunk `p.2` of a device's own half, or of the other half. -/
abbrev halfSet (c : Dev nD) (p : Bool × Fin 16) : Finset S16384x1024.Idx :=
  (halfRect (if p.1 then acrossY c else c) p.2).set

theorem mem_halfSet (c : Dev nD) (p : Bool × Fin 16) (i : S16384x1024.Idx) :
    i ∈ halfSet c p ↔ (i 0).val / 512 = 16 * (if p.1 then 1 - c.val % 2 else c.val % 2) + p.2.val := by
  rw [mem_half]
  obtain ⟨b, k⟩ := p
  cases b
  · simp
  · simp only [if_true]; rw [acrossY_column]

theorem halves_disjoint (c : Dev nD) (p p' : Bool × Fin 16) (h : p ≠ p') : Disjoint (halfSet c p) (halfSet c p') :=
  Finset.disjoint_left.mpr fun i hi hi' => h (by
    have e := ((mem_halfSet c p i).mp hi).symm.trans ((mem_halfSet c p' i).mp hi')
    obtain ⟨b, k⟩ := p
    obtain ⟨b', k'⟩ := p'
    have hk := k.isLt
    have hk' := k'.isLt
    cases b <;> cases b' <;> simp only [if_true, Bool.false_eq_true, if_false] at e
    · exact congrArg (Prod.mk false) (Fin.ext (by omega))
    · omega
    · omega
    · exact congrArg (Prod.mk true) (Fin.ext (by omega)))

theorem halves_cover (c : Dev nD) : Finset.univ.biUnion (halfSet c) = Finset.univ := by
  refine Finset.eq_univ_iff_forall.mpr fun i => Finset.mem_biUnion.mpr ?_
  have h0 : (i 0).val < 16384 := (i 0).isLt
  by_cases h : (i 0).val / 8192 = c.val % 2
  · exact ⟨(false, ⟨(i 0).val / 512 % 16, by omega⟩), Finset.mem_univ _, (mem_halfSet c _ i).mpr (by
      simp only [Bool.false_eq_true, if_false]; omega)⟩
  · exact ⟨(true, ⟨(i 0).val / 512 % 16, by omega⟩), Finset.mem_univ _, (mem_halfSet c _ i).mpr (by
      simp only [if_true]; omega)⟩

abbrev slotSet (b : Fin 2) : Finset S2x512x1024.Idx := (slotRect ⟨b.val, by omega⟩).set

theorem slots_disjoint (b b' : Fin 2) (h : b ≠ b') : Disjoint (slotSet b) (slotSet b') :=
  Finset.disjoint_left.mpr fun i hi hi' => h (by
    have e := ((mem_slot _ i).mp hi).symm.trans ((mem_slot _ i).mp hi')
    have hb := b.isLt
    have hb' := b'.isLt
    exact Fin.ext (by simpa [Nat.mod_eq_of_lt hb, Nat.mod_eq_of_lt hb'] using e))

theorem slots_cover : Finset.univ.biUnion slotSet = Finset.univ := by
  refine Finset.eq_univ_iff_forall.mpr fun i => Finset.mem_biUnion.mpr ?_
  have h0 : (i 0).val < 2 := (i 0).isLt
  exact ⟨⟨(i 0).val, h0⟩, Finset.mem_univ _, (mem_slot _ i).mpr (Nat.mod_eq_of_lt h0).symm⟩

/-- Two chunks on, the same slot. -/
theorem slot_next (k : Fin 16) (h : k.val + 2 < 16) : (slotRect ⟨k.val + 2, h⟩).set = (slotRect k).set :=
  Finset.ext fun i => by rw [mem_slot, mem_slot]; show _ = (k.val + 2) % 2 ↔ _; omega

/-! ## The contents -/

/-- What the devices hold of the argument. -/
abbrev Args (F : FTy → Type) : Type := Dev nD → S16384x1024.Idx → Elt F .f32

variable (X : Args F)

/-- The row `8192 y + r` of a full-sized buffer, at column `j`. -/
def rowOf (y r : ℕ) (j : Fin 1024) : S16384x1024.Idx :=
  ix2 (⟨(8192 * y + r) % 16384, Nat.mod_lt _ (by decide)⟩ : Fin 16384) j

/-- The row `r` of a half-sized buffer, at column `j`. -/
def lowRow (r : ℕ) (j : Fin 1024) : S8192x1024.Idx := ix2 (⟨r % 8192, Nat.mod_lt _ (by decide)⟩ : Fin 8192) j

theorem lowRow_val (r : ℕ) (j : Fin 1024) (hr : r < 8192) : ((lowRow r j) 0).val = r := Nat.mod_eq_of_lt hr

theorem rowOf_val (y r : ℕ) (j : Fin 1024) (hy : y < 2) (hr : r < 8192) : ((rowOf y r j) 0).val = 8192 * y + r := by
  show (8192 * y + r) % 16384 = _
  exact Nat.mod_eq_of_lt (by omega)

/-- The send buffer of device `c`: its half, rounded. -/
def sent (c : Dev nD) : S8192x1024.Idx → Elt F .bf16 := fun i =>
  FloatOps.truncf (F := F) .bf16 bitsLt_bf16_f32 (X c (rowOf (c.val % 2) (i 0).val (i 1)))

/-- The accumulator of device `c` after its addition: the neighbour's half and its own, added. -/
def summed (c : Dev nD) : S8192x1024.Idx → Elt F .bf16 := fun i =>
  FloatOps.addf (F := F) (φ := .bf16) (sent X (acrossX c) i) (sent X c i)

/-- The staging buffer of device `c` while chunk `k` is in its slot. -/
def staged (c : Dev nD) (k : Fin 16) : S2x512x1024.Idx → Elt F .f32 := fun i =>
  X c (rowOf (c.val % 2) (512 * k.val + (i 1).val) (i 2))

/-- The result of device `c`: its own sums in its half, its second-axis neighbour's in the other. -/
def result (c : Dev nD) : S16384x1024.Idx → Elt F .bf16 := fun i =>
  summed X (if (i 0).val / 8192 = c.val % 2 then c else acrossY c)
    (lowRow ((i 0).val % 8192) (i 1))

/-! ## Writing what another view holds -/

section Writes
variable {Val : EltTy → Type} {sp : Space} {s : Shape} {e : EltTy}

theorem write_eq_of_read (v : View sig .tc sp s e) (f g : v.ty.Contents Val) (w : s.Idx → Val e)
    (h : v.read Val g = w) : ∀ i ∈ v.set, v.write Val f w Finset.univ i = g i := by
  intro i hi
  rw [← h, View.write_read_eq_piecewise, View.setOn_univ, Finset.piecewise_eq_of_mem _ _ _ hi]
end Writes

theorem chunk_emb (k : Fin 16) (x : S512x1024.Idx) :
    (chunkRect k).emb x = lowRow (512 * k.val + (x 0).val) (x 1) := by
  have h0 : (x 0).val < 512 := (x 0).isLt
  have hk := k.isLt
  have e := lowRow_val (512 * k.val + (x 0).val) (x 1) (by omega)
  funext a
  refine Fin.ext ?_
  rw [Rect.emb_apply]
  match a with
  | ⟨0, _⟩ =>
    refine Eq.trans ?_ e.symm
    show 512 * k.val + 1 * (x 0).val = _
    omega
  | ⟨1, _⟩ => show 0 + 1 * (x 1).val = (x 1).val; omega

theorem half_emb (d : Dev nD) (k : Fin 16) (x : S512x1024.Idx) :
    (halfRect d k).emb x = rowOf (d.val % 2) (512 * k.val + (x 0).val) (x 1) := by
  have h0 : (x 0).val < 512 := (x 0).isLt
  have hk := k.isLt
  have e := rowOf_val (d.val % 2) (512 * k.val + (x 0).val) (x 1) (by omega) (by omega)
  have o := k0_off1_eq d k
  funext a
  refine Fin.ext ?_
  rw [Rect.emb_apply]
  match a with
  | ⟨0, _⟩ =>
    refine Eq.trans ?_ e.symm
    show (k0_off1 d (BitVec.ofNat 32 (512 * k.val))) 0 + 1 * (x 0).val = _
    rw [o]
    show (8192 * (d.val % 2) + 512 * k.val) + 1 * (x 0).val = _
    omega
  | ⟨1, _⟩ =>
    show (k0_off1 d (BitVec.ofNat 32 (512 * k.val))) 1 + 1 * (x 1).val = (x 1).val
    rw [o]
    show 0 + 1 * (x 1).val = _
    omega

/-- The row `r` of slot `b` of the staging buffer, at column `j`. -/
def slotRow (b : ℕ) (r : Fin 512) (j : Fin 1024) : S2x512x1024.Idx := ix3 (⟨b % 2, Nat.mod_lt _ (by decide)⟩ : Fin 2) r j

theorem slot_emb (k : Fin 16) (r : Fin 512) (j : Fin 1024) :
    (slotRect k).emb (ix3 (⟨0, Nat.one_pos⟩ : Fin 1) r j) = slotRow k.val r j := by
  funext a
  refine Fin.ext ?_
  rw [Rect.emb_apply]
  match a with
  | ⟨0, _⟩ => show k.val % 2 + 1 * 0 = k.val % 2; omega
  | ⟨1, _⟩ => show 0 + 1 * r.val = r.val; omega
  | ⟨2, _⟩ => show 0 + 1 * j.val = j.val; omega

/-- A load brings the staged contents. -/
theorem staged_read (c : Dev nD) (k : Fin 16) :
    (stageSlot k).view.read (Elt F) (staged X c k) = (xChunk c k).view.read (Elt F) (X c) := by
  funext x
  obtain ⟨r, j, rfl⟩ : ∃ (r : Fin 512) (j : Fin 1024), x = ix2 r j := ⟨x 0, x 1, eq_ix2 x⟩
  show staged X c k ((slotRect k).emb (Shape.reshapeEquiv _ (ix2 r j))) = X c ((halfRect c k).emb (ix2 r j))
  rw [reshapeEquiv_ix2_1ab, slot_emb, half_emb]
  rfl

/-- The staged chunk rounded is the sent one. -/
theorem sent_read (c : Dev nD) (k : Fin 16) :
    ((Memref.whole cc0_scratch1).access (chunkRect k)).read (Elt F) (sent X c)
      = rounded (((Memref.whole cc0_scratch0).access (slotRect k)).read (Elt F) (staged X c k)) := by
  funext x
  obtain ⟨r, j, rfl⟩ : ∃ (r : Fin 512) (j : Fin 1024), x = ix2 r j := ⟨x 0, x 1, eq_ix2 x⟩
  unfold rounded k0_pay1
  rw [shapeCast_self]
  show sent X c ((chunkRect k).emb (ix2 r j))
    = FloatOps.truncf (F := F) .bf16 bitsLt_bf16_f32 (staged X c k ((slotRect k).emb (Shape.reshapeEquiv _ (ix2 r j))))
  rw [reshapeEquiv_ix2_1ab, slot_emb, chunk_emb]
  unfold sent staged
  have hk := k.isLt
  have hr := r.isLt
  rw [lowRow_val _ _ (show 512 * k.val + r.val < 8192 by omega)]
  rfl

/-- A landed chunk holds what was sent. -/
theorem landed_read (c : Dev nD) (k : Fin 16) :
    (accChunk k).view.read (Elt F) (sent X c) = (sendChunk k).view.read (Elt F) (sent X c) := rfl

/-- The landed chunk and the own one added are the summed one. -/
theorem summed_read (c : Dev nD) (k : Fin 16) :
    ((Memref.whole cc0_scratch2).access (chunkRect k)).read (Elt F) (summed X c)
      = added (((Memref.whole cc0_scratch2).access (chunkRect k)).read (Elt F) (sent X (acrossX c)))
          (((Memref.whole cc0_scratch1).access (chunkRect k)).read (Elt F) (sent X c)) := by
  unfold added k0_pay20
  exact Eq.trans rfl (shapeCast_self _ _).symm

theorem result_row (c d : Dev nD) (hd : d = c ∨ d = acrossY c) (k : Fin 16) (x : S512x1024.Idx) :
    result X c ((halfRect d k).emb x) = summed X d ((chunkRect k).emb x) := by
  have h0 : (x 0).val < 512 := (x 0).isLt
  have hk := k.isLt
  rw [half_emb, chunk_emb]
  have e := rowOf_val (d.val % 2) (512 * k.val + (x 0).val) (x 1) (by omega) (by omega)
  generalize hi : rowOf (d.val % 2) (512 * k.val + (x 0).val) (x 1) = i at e
  have hj : i 1 = x 1 := by rw [← hi]; rfl
  unfold result
  have hdev : (if (i 0).val / 8192 = c.val % 2 then c else acrossY c) = d := by
    rw [e]
    rcases hd with rfl | rfl
    · rw [if_pos (by omega)]
    · rw [acrossY_column, if_neg (by omega)]
  rw [hdev, hj]
  have er : (i 0).val % 8192 = 512 * k.val + (x 0).val := by omega
  rw [er]

/-- A device's summed chunk lands in its own result … -/
theorem result_own (c : Dev nD) (k : Fin 16) :
    (outChunk c k).view.read (Elt F) (result X c) = (accChunk k).view.read (Elt F) (summed X c) :=
  funext fun x => result_row X c c (Or.inl rfl) k x
/-- … and in its second-axis neighbour's. -/
theorem result_across (c : Dev nD) (k : Fin 16) :
    (outChunk c k).view.read (Elt F) (result X (acrossY c)) = (accChunk k).view.read (Elt F) (summed X c) :=
  funext fun x => result_row X (acrossY c) c (Or.inr (acrossY_acrossY c).symm) k x

end Cert.KernelIdeal.Mesh

end
-- ==== Proof.KernelIdeal.Protocol.lean ====
/-
The protocol of the kernel's semaphores.

Every semaphore of a device has one round. The two that are counted by signals — the barrier before the
transfers and the meeting after them — have two duties of one unit, paid by the two neighbours; each of the
ninety-six that are counted by transfers has one duty of one chunk's credit. The barrier's duties hand over
the places the device's own transfers go to: the first-axis neighbour its accumulator, the second-axis
neighbour the half of its result that this device computes. A transfer's duty hands over the chunk moved,
at its new contents, or the share of the source that was lent.
-/
module

public import proofs.«01_k».proof.Proof.KernelIdeal.Contents
public import Idealize.ShloMosaic.Lib.Pipeline.Launch
public import Idealize.ShloMosaic.Lib.Tactic

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- Semaphore `sm` of device `c`. -/
abbrev cellAt (c : Dev nD) (sm : SemLoc sig) : GSem nD τ sig := ((c : Thread nD τ), sm)

abbrev barrierCell (c : Dev nD) : GSem nD τ sig := cellAt c (.reg barrier)
abbrev closingCell (c : Dev nD) : GSem nD τ sig := cellAt c (.reg closing)
abbrev loadCell (c : Dev nD) (k : Fin 16) : GSem nD τ sig := cellAt c (.dma (semAt cc0_scratch3 k))
abbrev sendACell (c : Dev nD) (k : Fin 16) : GSem nD τ sig := cellAt c (.dma (semAt cc0_scratch4 k))
abbrev recvACell (c : Dev nD) (k : Fin 16) : GSem nD τ sig := cellAt c (.dma (semAt cc0_scratch5 k))
abbrev sendBCell (c : Dev nD) (k : Fin 16) : GSem nD τ sig := cellAt c (.dma (semAt cc0_scratch6 k))
abbrev recvBCell (c : Dev nD) (k : Fin 16) : GSem nD τ sig := cellAt c (.dma (semAt cc0_scratch7 k))
abbrev copyCell (c : Dev nD) (k : Fin 16) : GSem nD τ sig := cellAt c (.dma (semAt cc0_scratch8 k))

theorem load_val (k : Fin 16) : (semAt cc0_scratch3 k : DmaSem sig).val = 16 * 0 + k.val := by revert k; decide +kernel
theorem sendA_val (k : Fin 16) : (semAt cc0_scratch4 k : DmaSem sig).val = 16 * 1 + k.val := by revert k; decide +kernel
theorem recvA_val (k : Fin 16) : (semAt cc0_scratch5 k : DmaSem sig).val = 16 * 2 + k.val := by revert k; decide +kernel
theorem sendB_val (k : Fin 16) : (semAt cc0_scratch6 k : DmaSem sig).val = 16 * 3 + k.val := by revert k; decide +kernel
theorem recvB_val (k : Fin 16) : (semAt cc0_scratch7 k : DmaSem sig).val = 16 * 4 + k.val := by revert k; decide +kernel
theorem copy_val (k : Fin 16) : (semAt cc0_scratch8 k : DmaSem sig).val = 16 * 5 + k.val := by revert k; decide +kernel

/-! ## The pieces held -/

variable (X : Args F)

def xPts (c : Dev nD) (k : Fin 16) : sProp 𝕄 :=
  (xChunk c k).view.loc (c : Thread nD τ) ↦[(xChunk c k).view.set]{fullShare} X c
def slotPts (c : Dev nD) (k : Fin 16) (f : S2x512x1024.Idx → Elt F .f32) : sProp 𝕄 :=
  (stageSlot k).view.loc (c : Thread nD τ) ↦[(stageSlot k).view.set]{fullShare} f
def sendPts (c : Dev nD) (k : Fin 16) (q : PosShare TreeShare) (f : S8192x1024.Idx → Elt F .bf16) : sProp 𝕄 :=
  (sendChunk k).view.loc (c : Thread nD τ) ↦[(sendChunk k).view.set]{q} f
def accPts (c : Dev nD) (k : Fin 16) (q : PosShare TreeShare) (f : S8192x1024.Idx → Elt F .bf16) : sProp 𝕄 :=
  (accChunk k).view.loc (c : Thread nD τ) ↦[(accChunk k).view.set]{q} f
/-- Device `c`'s result, the rows of chunk `k` of device `d`'s half. -/
def outPts (c d : Dev nD) (k : Fin 16) (f : S16384x1024.Idx → Elt F .bf16) : sProp 𝕄 :=
  (outChunk d k).view.loc (c : Thread nD τ) ↦[(outChunk d k).view.set]{fullShare} f

/-- Device `c`'s accumulator, whatever it holds. -/
def accFree (c : Dev nD) : sProp 𝕄 := bigSep Finset.univ fun k : Fin 16 => iprop(∃ f, accPts c k fullShare f)
/-- The rows of `d`'s half of device `c`'s result, whatever they hold. -/
def outFree (c d : Dev nD) : sProp 𝕄 := bigSep Finset.univ fun k : Fin 16 => iprop(∃ f, outPts c d k f)

instance xPts_storable (c : Dev nD) (k : Fin 16) : BI.Storable (upEmb : UEmb _ 𝕄) (xPts X c k) := by
  unfold xPts; infer_instance
instance slotPts_storable (c : Dev nD) (k : Fin 16) (f) : BI.Storable (upEmb : UEmb _ 𝕄) (slotPts (F := F) c k f) := by
  unfold slotPts; infer_instance
instance sendPts_storable (c : Dev nD) (k : Fin 16) (q) (f) : BI.Storable (upEmb : UEmb _ 𝕄) (sendPts (F := F) c k q f) := by
  unfold sendPts; infer_instance
instance accPts_storable (c : Dev nD) (k : Fin 16) (q) (f) : BI.Storable (upEmb : UEmb _ 𝕄) (accPts (F := F) c k q f) := by
  unfold accPts; infer_instance
instance outPts_storable (c d : Dev nD) (k : Fin 16) (f) : BI.Storable (upEmb : UEmb _ 𝕄) (outPts (F := F) c d k f) := by
  unfold outPts; infer_instance
instance accFree_storable (c : Dev nD) : BI.Storable (upEmb : UEmb _ 𝕄) (accFree (F := F) c) := by
  unfold accFree; infer_instance
instance outFree_storable (c d : Dev nD) : BI.Storable (upEmb : UEmb _ 𝕄) (outFree (F := F) c d) := by
  unfold outFree; infer_instance

/-! ## The schedule -/

/-- A transferred chunk's credit, of four-byte … -/
abbrev wide : ℕ := (stageSlot 0).view.dmaCredit
/-- … and of two-byte elements. -/
abbrev narrow : ℕ := (sendChunk 0).view.dmaCredit

theorem wide_pos : 0 < wide := View.dmaCredit_pos _ (by decide +kernel)
theorem narrow_pos : 0 < narrow := View.dmaCredit_pos _ (by decide +kernel)

theorem stageSlot_credit (k : Fin 16) : (stageSlot k).view.dmaCredit = wide := rfl
theorem sendChunk_credit (k : Fin 16) : (sendChunk k).view.dmaCredit = narrow := rfl
theorem accChunk_credit (k : Fin 16) : (accChunk k).view.dmaCredit = narrow := by decide +revert +kernel
theorem outChunk_credit (d : Dev nD) (k : Fin 16) : (outChunk d k).view.dmaCredit = narrow := by decide +revert +kernel

/-- What a transfer counted at the `k`-th semaphore of array `a` hands over on device `c`. -/
def transferPay (c : Dev nD) (a : ℕ) (k : Fin 16) : sProp 𝕄 :=
  match a with
  | 0 => iprop(slotPts c k (staged X c k) ∗ xPts X c k)
  | 1 => sendPts c k fullShare.left (sent X c)
  | 2 => accPts c k fullShare (sent X (acrossX c))
  | 3 => accPts c k fullShare.left (summed X c)
  | 4 => outPts c (acrossY c) k (result X c)
  | _ => iprop(outPts c c k (result X c) ∗ accPts c k fullShare.right (summed X c))

/-- What the signal of the first-axis (`false`) or second-axis (`true`) neighbour hands over on device `c`. -/
def signalPay (c : Dev nD) (s : Sem sig) (d : Bool) : sProp 𝕄 :=
  if s = barrier then (if d then outFree (acrossY c) c else accFree (acrossX c)) else iprop(emp)

instance transferPay_storable (c : Dev nD) (a : ℕ) (k : Fin 16) : BI.Storable (upEmb : UEmb _ 𝕄) (transferPay X c a k) := by
  unfold transferPay; split <;> infer_instance
instance signalPay_storable (c : Dev nD) (s : Sem sig) (d : Bool) : BI.Storable (upEmb : UEmb _ 𝕄) (signalPay (F := F) c s d) := by
  unfold signalPay; (repeat' split) <;> infer_instance

def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma j => if j.val / 16 = 0 then wide else narrow
  payload g _ d := match g.2 with
    | .reg s => signalPay g.1.1 s d
    | .dma j => transferPay X g.1.1 (j.val / 16) ⟨j.val % 16, Nat.mod_lt _ (by decide)⟩
  amount_pos g _ _ _ := by
    cases g.2 with
    | reg _ => exact Nat.one_pos
    | dma j => show 0 < if j.val / 16 = 0 then wide else narrow; split; exacts [wide_pos, narrow_pos]

instance sched_payload_storable (g : GSem nD τ sig) (r : ℕ) (d : Bool) :
    BI.Storable (upEmb : UEmb _ 𝕄) ((sched X).payload g r d) := by
  show BI.Storable upEmb (match g.2 with
    | .reg s => signalPay g.1.1 s d
    | .dma j => transferPay X g.1.1 (j.val / 16) ⟨j.val % 16, Nat.mod_lt _ (by decide)⟩)
  split <;> infer_instance

section Sched
variable (c : Dev nD)

theorem duties_reg (s : Sem sig) : (sched X).duties (cellAt c (.reg s)) 0 = Finset.univ := by
  dsimp only [sched]; exact if_pos ⟨rfl, rfl⟩
theorem duties_dma (j : DmaSem sig) : (sched X).duties (cellAt c (.dma j)) 0 = {false} := by
  dsimp only [sched]; exact if_pos ⟨rfl, rfl⟩
theorem duties_later (g : GSem nD τ sig) : ∀ r, 1 ≤ r → (sched X).duties g r = ∅ :=
  fun r hr => if_neg fun h => by omega

theorem amount_reg (s : Sem sig) (d : Bool) : (sched X).amount (cellAt c (.reg s)) 0 d = 1 := rfl
theorem amount_wide (j : DmaSem sig) (k : Fin 16) (hj : j.val = 16 * 0 + k.val) (d : Bool) :
    (sched X).amount (cellAt c (.dma j)) 0 d = wide := if_pos (by have := k.isLt; omega)
theorem amount_narrow (j : DmaSem sig) (a : ℕ) (k : Fin 16) (hj : j.val = 16 * (a + 1) + k.val) (d : Bool) :
    (sched X).amount (cellAt c (.dma j)) 0 d = narrow := if_neg (by omega)

theorem expect_reg (s : Sem sig) : (sched X).expect (cellAt c (.reg s)) 0 = 2 := by
  unfold Schedule.expect Schedule.amountOf
  rw [duties_reg, Finset.sum_congr rfl fun d _ => amount_reg X c s d, Finset.sum_const, Finset.card_univ, Fintype.card_bool, smul_eq_mul]
theorem expect_dma (j : DmaSem sig) : (sched X).expect (cellAt c (.dma j)) 0 = (sched X).amount (cellAt c (.dma j)) 0 false := by
  unfold Schedule.expect Schedule.amountOf
  rw [duties_dma, Finset.sum_singleton]

theorem payload_dma (j : DmaSem sig) (a : ℕ) (k : Fin 16) (hj : j.val = 16 * a + k.val) (d : Bool) :
    (sched X).payload (cellAt c (.dma j)) 0 d = transferPay X c a k := by
  have hk := k.isLt
  have h1 : j.val / 16 = a := by omega
  have h2 : (⟨j.val % 16, Nat.mod_lt _ (by decide)⟩ : Fin 16) = k := Fin.ext (show j.val % 16 = k.val by omega)
  show transferPay X c (j.val / 16) ⟨j.val % 16, Nat.mod_lt _ (by decide)⟩ = _
  rw [h1, h2]

theorem rest_dma (j : DmaSem sig) (a : ℕ) (k : Fin 16) (hj : j.val = 16 * a + k.val) :
    bigSep ((sched X).duties (cellAt c (.dma j)) 0 \ ∅) (fun d => (sched X).payload (cellAt c (.dma j)) 0 d) = transferPay X c a k := by
  rw [Finset.sdiff_empty, duties_dma, bigSep_singleton, payload_dma X c j a k hj]

theorem payload_barrier (d : Bool) :
    (sched X).payload (barrierCell c) 0 d = if d then outFree (acrossY c) c else accFree (acrossX c) := by
  show signalPay c barrier d = _
  unfold signalPay; rw [if_pos rfl]
theorem payload_closing (d : Bool) : (sched X).payload (closingCell c) 0 d = iprop(emp) := by
  show signalPay c closing d = _
  unfold signalPay; rw [if_neg (by decide +kernel)]

theorem rest_reg (s : Sem sig) :
    bigSep ((sched X).duties (cellAt c (.reg s)) 0 \ ∅) (fun d => (sched X).payload (cellAt c (.reg s)) 0 d)
      = iprop((sched X).payload (cellAt c (.reg s)) 0 false ∗ (sched X).payload (cellAt c (.reg s)) 0 true) := by
  rw [Finset.sdiff_empty, duties_reg, bigSep_univ_eq_bigSepL [false, true] (by decide) (by decide), bigSepL_cons_cons, bigSepL_singleton]
  rfl
end Sched

/-! ## The levels, and what is owed -/

/-- Where waits are admitted. -/
def L (g : GSem nD τ sig) : Finset Unit := if g.1.2 = .tc then {()} else ∅
/-- The barrier lies below the first exchange, that below the second, that below the closing meeting; a device's
    own transfers lie below all of them. -/
def lv (g : GSem nD τ sig) (_ : Unit) : ℕ := match g.2 with
  | .reg s => if s = barrier then 1 else 4
  | .dma j => if j.val / 16 = 2 then 2 else if j.val / 16 = 4 then 3 else 0

theorem L_of_ne (g : GSem nD τ sig) (h : g.1.2 ≠ .tc) : L g = ∅ := if_neg h
theorem L_tc (c : Dev nD) (sm : SemLoc sig) : L (cellAt c sm) = {()} := if_pos rfl

theorem lv_barrier (c : Dev nD) : lv (barrierCell c) () = 1 := by
  show (if barrier = barrier then 1 else 4) = 1
  exact if_pos rfl
theorem lv_closing (c : Dev nD) : lv (closingCell c) () = 4 := by
  show (if closing = barrier then 1 else 4) = 4
  exact if_neg (by decide +kernel)
theorem lv_dma (c : Dev nD) (j : DmaSem sig) (a : ℕ) (k : Fin 16) (hj : j.val = 16 * a + k.val) :
    lv (cellAt c (.dma j)) () = if a = 2 then 2 else if a = 4 then 3 else 0 := by
  have hk := k.isLt
  have h1 : j.val / 16 = a := by omega
  show (if j.val / 16 = 2 then 2 else if j.val / 16 = 4 then 3 else 0) = _
  rw [h1]

/-- Everything owed lies above level `n`. -/
def Above (n : ℕ) (O : CellTallies nD τ sig Unit) : Prop := ∀ g u, 0 < O g u → g.1.2 = .tc ∧ n < lv g u

theorem Above.add {n : ℕ} {A B : CellTallies nD τ sig Unit} (hA : Above n A) (hB : Above n B) : Above n (A + B) := by
  intro g u h
  rw [Pi.add_apply, Finsupp.add_apply] at h
  rcases Nat.eq_zero_or_pos (A g u) with h0 | h0
  · exact hB g u (by omega)
  · exact hA g u h0

theorem above_zero (n : ℕ) : Above n 0 := fun g u h => absurd h (Nat.lt_irrefl 0)

theorem above_at {n : ℕ} (c : Dev nD) (sm : SemLoc sig) (N : ℕ) (h : n < lv (cellAt c sm) ()) :
    Above n (tallyAt (cellAt c sm) () N) := by
  intro g u hg
  rw [tallyAt_apply] at hg
  by_cases e : g = cellAt c sm ∧ u = ()
  · obtain ⟨rfl, rfl⟩ := e; exact ⟨rfl, h⟩
  · rw [if_neg e] at hg; exact absurd hg (Nat.lt_irrefl 0)

theorem mayWait (c : Dev nD) (sm : SemLoc sig) (O : CellTallies nD τ sig Unit) (h : Above (lv (cellAt c sm) ()) O) :
    (levAts L lv : sProp 𝕄) ⊢ MayWait (c : Thread nD τ) sm () O :=
  MayOwe.of_cut (L := L) (lev := lv) (lv (cellAt c sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- The tallies `f j`, `f (j + 1)`, …, `n` of them. -/
def owedFrom (f : Fin 16 → CellTallies nD τ sig Unit) : ℕ → ℕ → CellTallies nD τ sig Unit
  | 0, _ => 0
  | n + 1, j => owedFrom f n (j + 1) + f (Fin.ofNat 16 j)

theorem above_from {n : ℕ} {f : Fin 16 → CellTallies nD τ sig Unit} (h : ∀ k, Above n (f k)) :
    ∀ m j, Above n (owedFrom f m j)
  | 0, _ => above_zero n
  | m + 1, j => (above_from h m (j + 1)).add (h _)

abbrev oweRecvA (c : Dev nD) (k : Fin 16) : CellTallies nD τ sig Unit := tallyAt (recvACell (acrossX c) k) () narrow
abbrev oweRecvB (c : Dev nD) (k : Fin 16) : CellTallies nD τ sig Unit := tallyAt (recvBCell (acrossY c) k) () narrow

/-- The two signals of the closing meeting. -/
def oweClosing (c : Dev nD) : CellTallies nD τ sig Unit :=
  tallyAt (closingCell (acrossY c)) () 1 + tallyAt (closingCell (acrossX c)) () 1
/-- Those, and the second exchange from `j` on. -/
def oweB (c : Dev nD) (n j : ℕ) : CellTallies nD τ sig Unit := oweClosing c + owedFrom (oweRecvB c) n j
/-- Those, and the first exchange from `j` on. -/
def oweA (c : Dev nD) (n j : ℕ) : CellTallies nD τ sig Unit := oweB c 16 0 + owedFrom (oweRecvA c) n j
/-- Everything a device owes at launch. -/
def oweAll (c : Dev nD) : CellTallies nD τ sig Unit :=
  oweA c 16 0 + tallyAt (barrierCell (acrossY c)) () 1 + tallyAt (barrierCell (acrossX c)) () 1

theorem oweA_succ (c : Dev nD) (n j : ℕ) : oweA c (n + 1) j = oweA c n (j + 1) + oweRecvA c (Fin.ofNat 16 j) :=
  (add_assoc _ _ _).symm
theorem oweB_succ (c : Dev nD) (n j : ℕ) : oweB c (n + 1) j = oweB c n (j + 1) + oweRecvB c (Fin.ofNat 16 j) :=
  (add_assoc _ _ _).symm
theorem oweA_zero (c : Dev nD) (j : ℕ) : oweA c 0 j = oweB c 16 0 := add_zero _
theorem oweB_zero (c : Dev nD) (j : ℕ) : oweB c 0 j = oweClosing c := add_zero _

theorem above_closing (c : Dev nD) : Above 3 (oweClosing c) :=
  (above_at _ _ _ (by rw [lv_closing]; decide)).add (above_at _ _ _ (by rw [lv_closing]; decide))
theorem Above.mono {n n' : ℕ} {O : CellTallies nD τ sig Unit} (h : Above n O) (hn : n' ≤ n) : Above n' O :=
  fun g u hg => ⟨(h g u hg).1, lt_of_le_of_lt hn (h g u hg).2⟩
theorem above_oweB (c : Dev nD) (n j : ℕ) : Above 2 (oweB c n j) :=
  ((above_closing c).mono (by decide)).add
    (above_from (fun k => above_at _ _ _ (by rw [lv_dma _ _ 4 k (recvB_val k)]; decide)) n j)
theorem above_oweA (c : Dev nD) (n j : ℕ) : Above 1 (oweA c n j) :=
  ((above_oweB c 16 0).mono (by decide)).add
    (above_from (fun k => above_at _ _ _ (by rw [lv_dma _ _ 2 k (recvA_val k)]; decide)) n j)

end Cert.KernelIdeal.Mesh

end
-- ==== Proof.KernelIdeal.Rules.lean ====
/-
One rule for each of the body's operations, in the protocol's terms.

Each is a rule of the library at the protocol's schedule: a wait closes its semaphore and brings what was
transferred, a transfer spends its duty's token and lends what it reads, a load and a store go through the
piece held.
-/
module

public import proofs.«01_k».proof.Proof.KernelIdeal.Protocol

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The weakest precondition of a program of device `c`. -/
abbrev run (c : Dev nD) {α : Type} (p : P F α) (Q : α → sProp 𝕄) : sProp 𝕄 :=
  wp frame (wpE (defs₀ (F := F)) 𝒱₀ (c : Thread nD τ) none) Set.univ p Q

variable (X : Args F) (K : Dev nD × SemLoc sig → ℕ)

/-- Every cell's invariant under its name, and that every cell has begun its round. -/
def records : sProp 𝕄 :=
  iprop((bigSep Finset.univ fun p : Dev nD × SemLoc sig => cellInv ER (sched X) (K p) (cellAt p.1 p.2))
    ∗ bigSep Finset.univ fun p : Dev nD × SemLoc sig => reached ER (cellAt p.1 p.2) 0)

instance records_persistent : BI.Persistent (records X K) := by unfold records; infer_instance

/-- What every operation may use again and again. -/
def ctx : sProp 𝕄 := iprop(records X K ∗ levAts L lv)

instance ctx_persistent : BI.Persistent (ctx X K) := by unfold ctx; infer_instance

theorem ctx_inv (c : Dev nD) (sm : SemLoc sig) : ctx X K ⊢ cellInv ER (sched X) (K (c, sm)) (cellAt c sm) := by
  have h : (bigSep Finset.univ fun p : Dev nD × SemLoc sig => (cellInv ER (sched X) (K p) (cellAt p.1 p.2) : sProp 𝕄))
      ⊢ cellInv ER (sched X) (K (c, sm)) (cellAt c sm) := bigSep_elim (Finset.mem_univ (c, sm))
  unfold ctx records
  iintro ⟨⟨H, -⟩, -⟩
  iapply h; iexact H

theorem ctx_reached (c : Dev nD) (sm : SemLoc sig) : ctx X K ⊢ reached ER (cellAt c sm) 0 := by
  have h : (bigSep Finset.univ fun p : Dev nD × SemLoc sig => (reached ER (cellAt p.1 p.2) 0 : sProp 𝕄))
      ⊢ reached ER (cellAt c sm) 0 := bigSep_elim (Finset.mem_univ (c, sm))
  unfold ctx records
  iintro ⟨⟨-, H⟩, -⟩
  iapply h; iexact H

theorem ctx_mayWait (c : Dev nD) (sm : SemLoc sig) (O : CellTallies nD τ sig Unit) (h : Above (lv (cellAt c sm) ()) O) :
    ctx X K ⊢ MayWait (c : Thread nD τ) sm () O := by
  unfold ctx
  iintro ⟨-, H⟩
  iapply (mayWait c sm O h); iexact H

/-- What device `c` owes, whatever it has waited for. -/
def owing (c : Dev nD) (O : CellTallies nD τ sig Unit) : sProp 𝕄 := iprop(∃ W, owes (c : Thread nD τ) O W)

/-! ## Waits and signals -/

/-- A wait for a transfer: its semaphore is closed, and what was transferred is the device's. -/
theorem run_wait (c : Dev nD) (j : DmaSem sig) (a : ℕ) (k : Fin 16) (hj : j.val = 16 * a + k.val)
    {sp sp' : Space} {s s' : Shape} {e e' : EltTy} {src : Memref sig .tc sp' s' e'} {dst : Memref sig .tc sp s e}
    {hsrc : src.view.WordExact} {hdst : dst.view.WordExact} {α : Type} {Q : α → sProp 𝕄} {p : PUnit → P F α}
    (N : ℕ) (hN : dst.view.dmaCredit = N) (hA : (sched X).amount (cellAt c (.dma j)) 0 false = N)
    (O : CellTallies nD τ sig Unit) (hO : Above (lv (cellAt c (.dma j)) ()) O) :
    iprop(ctx X K ∗ cred (tallyAt (cellAt c (.dma j)) () N) ∗ owing c O ∗ atPos ER (cellAt c (.dma j)) 0 ∅ 0)
      ⊢ iprop(((owing c O ∗ semVal (cellAt c (.dma j)) 0 ∗ transferPay X c a k) -∗ run c (p ⟨⟩) Q)
          -∗ run c (.op (.waitDma2 j src dst hsrc hdst) p) Q) := by
  subst hN
  unfold owing
  iintro ⟨#Hctx, Hcred, ⟨%W, Howes⟩, Hat⟩ Hk
  iapply (Rounds.wp_wait_rest_token 𝒱₀ ER (sched X) (c : Thread nD τ) none (κ := K (c, .dma j))
      (wpE_waitDma2_eq 𝒱₀ (c : Thread nD τ) none Set.univ) (Set.mem_univ _) () (O := O) (W := W) (R := 0) (m := 0) (T := ∅)
      (by rw [Nat.zero_add, expect_dma, hA])) $$ [Hcred Howes Hat]
  · isplitr; · iapply (ctx_inv X K c (.dma j)); iexact Hctx
    isplitl [Hcred]; · iexact Hcred
    isplitl [Howes]; · iexact Howes
    isplitr; · iapply (ctx_mayWait X K c (.dma j) O hO); iexact Hctx
    iexact Hat
  iintro ⟨Howes, Hat, -, Hpay⟩
  imod (Rounds.cell_close ER (sched X) (Set.mem_univ (K (c, .dma j))) (fun h => h) (R := 0 + 1) (duties_later X (cellAt c (.dma j)))) $$ [Hat] with Hz
  · isplitr; · iapply (ctx_inv X K c (.dma j)); iexact Hctx
    iexact Hat
  iapply Hk
  isplitl [Howes]; · iexists _; iexact Howes
  isplitl [Hz]; · iexact Hz
  iapply (Entails.of_eq (rest_dma X c j a k hj)); iexact Hpay

/-- A signal to device `d`'s semaphore `s`. -/
theorem run_signal (c d : Dev nD) (s : Sem sig) (b : Bool) {α : Type} {Q : α → sProp 𝕄} {p : PUnit → P F α}
    (O : CellTallies nD τ sig Unit) :
    iprop(ctx X K ∗ owing c (O + tallyAt (cellAt d (.reg s)) () 1) ∗ dutyTok ER (cellAt d (.reg s)) 0 b
        ∗ (sched X).payload (cellAt d (.reg s)) 0 b)
      ⊢ iprop((owing c O -∗ run c (p ⟨⟩) Q) -∗ run c (.op (.semSignal (d : Thread nD τ) s (1#32 : BitVec 32).toInt) p) Q) := by
  unfold owing
  iintro ⟨#Hctx, ⟨%W, Howes⟩, Htok, Hpay⟩ Hk
  iapply (Rounds.wp_signal 𝒱₀ ER (sched X) (c : Thread nD τ) none (dst := (d : Thread nD τ)) (κ := K (d, .reg s))
      (d := b) (by rw [duties_reg]; exact Finset.mem_univ _) ((amount_reg X d s b).trans (by decide)) () O rfl)
    $$ [Howes Htok Hpay]
  · isplitr; · iapply (ctx_inv X K d (.reg s)); iexact Hctx
    isplitl [Howes]; · iexact Howes
    isplitl [Htok]; · iexact Htok
    isplitl [Hpay]; · iexact Hpay
    iapply (ctx_reached X K d (.reg s)); iexact Hctx
  iintro Howes
  iapply Hk
  iexists _; iexact Howes

/-- The wait for both neighbours' signals. -/
theorem run_meet (c : Dev nD) (s : Sem sig) {α : Type} {Q : α → sProp 𝕄} {p : PUnit → P F α}
    (O : CellTallies nD τ sig Unit) (hO : Above (lv (cellAt c (.reg s)) ()) O) :
    iprop(ctx X K ∗ cred (tallyAt (cellAt c (.reg s)) () 2) ∗ owing c O ∗ atPos ER (cellAt c (.reg s)) 0 ∅ 0)
      ⊢ iprop(((owing c O ∗ semVal (cellAt c (.reg s)) 0 ∗ (sched X).payload (cellAt c (.reg s)) 0 false
              ∗ (sched X).payload (cellAt c (.reg s)) 0 true) -∗ run c (p ⟨⟩) Q)
          -∗ run c (.op (.semWait s (2#32 : BitVec 32).toInt) p) Q) := by
  unfold owing
  iintro ⟨#Hctx, Hcred, ⟨%W, Howes⟩, Hat⟩ Hk
  iapply (Rounds.wp_wait_rest_token 𝒱₀ ER (sched X) (c : Thread nD τ) none (κ := K (c, .reg s))
      (wpE_semWait_eq 𝒱₀ (c : Thread nD τ) none Set.univ) (Set.mem_univ _) () (O := O) (W := W) (R := 0) (m := 0) (T := ∅)
      (by rw [expect_reg]; decide)) $$ [Hcred Howes Hat]
  · isplitr; · iapply (ctx_inv X K c (.reg s)); iexact Hctx
    isplitl [Hcred]; · iexact Hcred
    isplitl [Howes]; · iexact Howes
    isplitr; · iapply (ctx_mayWait X K c (.reg s) O hO); iexact Hctx
    iexact Hat
  iintro ⟨Howes, Hat, -, Hpay⟩
  imod (Rounds.cell_close ER (sched X) (Set.mem_univ (K (c, .reg s))) (fun h => h) (R := 0 + 1) (duties_later X (cellAt c (.reg s)))) $$ [Hat] with Hz
  · isplitr; · iapply (ctx_inv X K c (.reg s)); iexact Hctx
    iexact Hat
  iapply Hk
  isplitl [Howes]; · iexists _; iexact Howes
  isplitl [Hz]; · iexact Hz
  iapply (Entails.of_eq (rest_reg X c s)); iexact Hpay

/-! ## Transfers -/

/-- A transfer within device `c`, counted at `j`: what it reads at any share and the place it writes are handed over. -/
theorem run_copy (c : Dev nD) (j : DmaSem sig) (a : ℕ) (k : Fin 16) (hj : j.val = 16 * a + k.val)
    {sp sp' : Space} {s : Shape} {e : EltTy} {src : Memref sig .tc sp s e} {dst : Memref sig .tc sp' s e}
    {hsrc : src.view.WordExact} {hdst : dst.view.WordExact} {hsem : DmaTarget.Typed (nD := nD) (τ := τ) (p := Proc.tc) sp (.dma j) (.here dst)}
    {α : Type} {Q : α → sProp 𝕄} {p : PUnit → P F α} {q : PosShare TreeShare}
    {fs : Buf (Elt F) (src.view.loc (c : Thread nD τ))} {fd : Buf (Elt F) (dst.view.loc (c : Thread nD τ))}
    (N : ℕ) (hN : dst.view.dmaCredit = N) (hA : (sched X).amount (cellAt c (.dma j)) 0 false = N)
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ transferPay X c a k) :
    iprop(ctx X K ∗ (src.view.loc (c : Thread nD τ) ↦[src.view.set]{q} fs) ∗ (dst.view.loc (c : Thread nD τ) ↦[dst.view.set]{fullShare} fd)
        ∗ dutyTok ER (cellAt c (.dma j)) 0 false)
      ⊢ iprop((cred (tallyAt (cellAt c (.dma j)) () N) -∗ run c (p ⟨⟩) Q)
          -∗ run c (.op (.enqueueDma src (.here dst) (.dma j) hsrc hdst hsem) p) Q) := by
  iintro ⟨#Hctx, Hs, Hd, Htok⟩ Hk
  iapply (Rounds.wp_copy_pointsTo 𝒱₀ ER (sched X) (c : Thread nD τ) none (sem := .dma j) (κ := K (c, .dma j)) (r := 0) (d := false) (q := q) (fs := fs) (fd := fd)
      (by rw [duties_dma]; exact Finset.mem_singleton_self _) () N hN hA (by rw [payload_dma X c j a k hj]; exact hpay))
    $$ [Hs Hd Htok]
  · isplitr; · iapply (ctx_inv X K c (.dma j)); iexact Hctx
    isplitl [Hs]; · iexact Hs
    isplitl [Hd]; · iexact Hd
    isplitl [Htok]; · iexact Htok
    iapply (ctx_reached X K c (.dma j)); iexact Hctx
  iexact Hk

/-- A transfer from device `c` into device `d`. -/
theorem run_send (c d : Dev nD) (j j' : DmaSem sig) (a a' : ℕ) (k : Fin 16) (hj : j.val = 16 * a + k.val) (hj' : j'.val = 16 * a' + k.val)
    {sp sp' : Space} {s : Shape} {e : EltTy} {src : Memref sig .tc sp s e} {dst : Memref sig .tc sp' s e}
    {hsc : dst.view.ref.isScScratch = false}
    {hsrc : src.view.WordExact} {hdst : dst.view.WordExact}
    {hsem : DmaTarget.Typed sp (.dma j') (.remote (Dev.tc d : Thread nD τ) dst (.dma j) hsc)}
    {α : Type} {Q : α → sProp 𝕄} {p : PUnit → P F α} {q : PosShare TreeShare}
    {fs : Buf (Elt F) (src.view.loc (c : Thread nD τ))} {fd : Buf (Elt F) (dst.view.loc (d : Thread nD τ))}
    (N : ℕ) (hN : dst.view.dmaCredit = N) (hA : (sched X).amount (cellAt c (.dma j)) 0 false = N)
    (hA' : (sched X).amount (cellAt d (.dma j')) 0 false = N)
    (hpay : (src.view.loc (c : Thread nD τ) ↦[src.view.set]{q} fs) ⊢ transferPay X c a k)
    (hpay' : (dst.view.loc (d : Thread nD τ) ↦[dst.view.set]{fullShare} (dst.view.write (Elt F) fd (src.view.read (Elt F) fs) Finset.univ))
        ⊢ transferPay X d a' k)
    (O : CellTallies nD τ sig Unit) :
    iprop(ctx X K ∗ (src.view.loc (c : Thread nD τ) ↦[src.view.set]{q} fs) ∗ (dst.view.loc (d : Thread nD τ) ↦[dst.view.set]{fullShare} fd)
        ∗ owing c (O + tallyAt (cellAt d (.dma j')) () N) ∗ dutyTok ER (cellAt c (.dma j)) 0 false ∗ dutyTok ER (cellAt d (.dma j')) 0 false)
      ⊢ iprop(((cred (tallyAt (cellAt c (.dma j)) () N) ∗ owing c O) -∗ run c (p ⟨⟩) Q)
          -∗ run c (.op (.enqueueDma src (.remote (Dev.tc d : Thread nD τ) dst (.dma j) hsc) (.dma j') hsrc hdst hsem) p) Q) := by
  unfold owing
  iintro ⟨#Hctx, Hs, Hd, ⟨%W, Howes⟩, Htok, Htok'⟩ Hk
  iapply (Rounds.wp_send_pointsTo 𝒱₀ ER (sched X) (c : Thread nD τ) none (sS := .dma j) (sem := .dma j') (κ₁ := K (c, .dma j)) (κ₂ := K (d, .dma j'))
      (r₁ := 0) (r₂ := 0) (d₁ := false) (d₂ := false) (q := q) (fs := fs) (fd := fd)
      (by rw [duties_dma]; exact Finset.mem_singleton_self _) (by rw [duties_dma]; exact Finset.mem_singleton_self _)
      () () N hN hA hA' O rfl (W := W)
      (by rw [payload_dma X c j a k hj]; exact hpay) (by rw [payload_dma X d j' a' k hj']; exact hpay'))
    $$ [Hs Hd Howes Htok Htok']
  · isplitr; · iapply (ctx_inv X K c (.dma j)); iexact Hctx
    isplitr; · iapply (ctx_inv X K d (.dma j')); iexact Hctx
    isplitl [Hs]; · iexact Hs
    isplitl [Hd]; · iexact Hd
    isplitl [Howes]; · iexact Howes
    isplitl [Htok]; · iexact Htok
    isplitr; · iapply (ctx_reached X K c (.dma j)); iexact Hctx
    isplitl [Htok']; · iexact Htok'
    iapply (ctx_reached X K d (.dma j')); iexact Hctx
  iintro ⟨Hc, Howes⟩
  iapply Hk
  isplitl [Hc]; · iexact Hc
  iexists _; iexact Howes

/-! ## Loads and stores -/

theorem slot_subset (k : Fin 16) : ((Memref.whole cc0_scratch0).access (slotRect k)).set ⊆ (stageSlot k).view.set :=
  (View.set_reshape ((Memref.whole cc0_scratch0).view.slice (slotRect k)) _).symm.subset

theorem run_loadSlot (c : Dev nD) (k : Fin 16) (f : S2x512x1024.Idx → Elt F .f32) {hl} {α : Type} {Q : α → sProp 𝕄}
    {p : ((slotRect k).toLoadRect.shape.Idx → Elt F .f32) → P F α} :
    slotPts c k f ⊢ iprop((slotPts c k f -∗ run c (p (((Memref.whole cc0_scratch0).access (slotRect k)).read (Elt F) f)) Q)
      -∗ run c (.op (.load (Memref.whole cc0_scratch0) (slotRect k).toLoadRect hl) p) Q) := by
  unfold slotPts
  exact wp_load_rect 𝒱₀ (c : Thread nD τ) none Set.univ (m := Memref.whole cc0_scratch0) (r := slotRect k)
    (S := (stageSlot k).view.set) (slot_subset k)

theorem run_loadSend (c : Dev nD) (k : Fin 16) (q : PosShare TreeShare) (f : S8192x1024.Idx → Elt F .bf16) {hl} {α : Type} {Q : α → sProp 𝕄}
    {p : ((chunkRect k).toLoadRect.shape.Idx → Elt F .bf16) → P F α} :
    sendPts c k q f ⊢ iprop((sendPts c k q f -∗ run c (p (((Memref.whole cc0_scratch1).access (chunkRect k)).read (Elt F) f)) Q)
      -∗ run c (.op (.load (Memref.whole cc0_scratch1) (chunkRect k).toLoadRect hl) p) Q) := by
  unfold sendPts
  exact wp_load_rect 𝒱₀ (c : Thread nD τ) none Set.univ (m := Memref.whole cc0_scratch1) (r := chunkRect k)
    (S := (sendChunk k).view.set) (Finset.Subset.refl _)

theorem run_loadAcc (c : Dev nD) (k : Fin 16) (q : PosShare TreeShare) (f : S8192x1024.Idx → Elt F .bf16) {hl} {α : Type} {Q : α → sProp 𝕄}
    {p : ((chunkRect k).toLoadRect.shape.Idx → Elt F .bf16) → P F α} :
    accPts c k q f ⊢ iprop((accPts c k q f -∗ run c (p (((Memref.whole cc0_scratch2).access (chunkRect k)).read (Elt F) f)) Q)
      -∗ run c (.op (.load (Memref.whole cc0_scratch2) (chunkRect k).toLoadRect hl) p) Q) := by
  unfold accPts
  exact wp_load_rect 𝒱₀ (c : Thread nD τ) none Set.univ (m := Memref.whole cc0_scratch2) (r := chunkRect k)
    (S := (accChunk k).view.set) (Finset.Subset.refl _)

/-- A store into the send buffer's chunk: it holds any contents that read as what was stored. -/
theorem run_storeSend (c : Dev nD) (k : Fin 16) (f g : S8192x1024.Idx → Elt F .bf16) (w : FVec F S512x1024 .bf16)
    (hg : ((Memref.whole cc0_scratch1).access (chunkRect k)).read (Elt F) g = w) {hx hm} {α : Type} {Q : α → sProp 𝕄} {p : PUnit → P F α} :
    sendPts c k fullShare f ⊢ iprop((sendPts c k fullShare g -∗ run c (p ⟨⟩) Q)
      -∗ run c (.op (.store (Memref.whole cc0_scratch1) (chunkRect k) w Finset.univ hx hm) p) Q) := by
  have e : sendPts c k fullShare g
      = ((sendChunk k).view.loc (c : Thread nD τ) ↦[(sendChunk k).view.set]{fullShare}
          (((Memref.whole cc0_scratch1).access (chunkRect k)).write (Elt F) f w Finset.univ) : sProp 𝕄) := by
    unfold sendPts
    refine pointsTo_congr fun i hi => Eq.symm ?_
    exact (write_eq_of_read ((Memref.whole cc0_scratch1).access (chunkRect k)) f g w hg i hi)
  rw [e]
  unfold sendPts
  have hS : ((Memref.whole cc0_scratch1).access (chunkRect k)).setOn Finset.univ ⊆ (sendChunk k).view.set := by
    rw [View.setOn_univ]
  exact wp_store 𝒱₀ (c : Thread nD τ) none Set.univ hS

/-- A store into the accumulator's chunk. -/
theorem run_storeAcc (c : Dev nD) (k : Fin 16) (f g : S8192x1024.Idx → Elt F .bf16) (w : FVec F S512x1024 .bf16)
    (hg : ((Memref.whole cc0_scratch2).access (chunkRect k)).read (Elt F) g = w) {hx hm} {α : Type} {Q : α → sProp 𝕄} {p : PUnit → P F α} :
    accPts c k fullShare f ⊢ iprop((accPts c k fullShare g -∗ run c (p ⟨⟩) Q)
      -∗ run c (.op (.store (Memref.whole cc0_scratch2) (chunkRect k) w Finset.univ hx hm) p) Q) := by
  have e : accPts c k fullShare g
      = ((accChunk k).view.loc (c : Thread nD τ) ↦[(accChunk k).view.set]{fullShare}
          (((Memref.whole cc0_scratch2).access (chunkRect k)).write (Elt F) f w Finset.univ) : sProp 𝕄) := by
    unfold accPts
    refine pointsTo_congr fun i hi => Eq.symm ?_
    exact (write_eq_of_read ((Memref.whole cc0_scratch2).access (chunkRect k)) f g w hg i hi)
  rw [e]
  unfold accPts
  have hS : ((Memref.whole cc0_scratch2).access (chunkRect k)).setOn Finset.univ ⊆ (accChunk k).view.set := by
    rw [View.setOn_univ]
  exact wp_store 𝒱₀ (c : Thread nD τ) none Set.univ hS

end Cert.KernelIdeal.Mesh

end
-- ==== Proof.KernelIdeal.Steps.lean ====
/-
What the body does at one chunk: the load's start, the first exchange, the second exchange, the closing waits.
-/
module

public import proofs.«01_k».proof.Proof.KernelIdeal.Rules

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Args F) (K : Dev nD × SemLoc sig → ℕ)

/-! ## The credits a device earns -/

abbrev loadCred (c : Dev nD) (k : Fin 16) : sProp 𝕄 := cred (tallyAt (loadCell c k) () wide)
abbrev sendACred (c : Dev nD) (k : Fin 16) : sProp 𝕄 := cred (tallyAt (sendACell c k) () narrow)
abbrev recvACred (c : Dev nD) (k : Fin 16) : sProp 𝕄 := cred (tallyAt (recvACell c k) () narrow)
abbrev sendBCred (c : Dev nD) (k : Fin 16) : sProp 𝕄 := cred (tallyAt (sendBCell c k) () narrow)
abbrev recvBCred (c : Dev nD) (k : Fin 16) : sProp 𝕄 := cred (tallyAt (recvBCell c k) () narrow)
abbrev copyCred (c : Dev nD) (k : Fin 16) : sProp 𝕄 := cred (tallyAt (copyCell c k) () narrow)

theorem pay_load (c : Dev nD) (k : Fin 16) : transferPay X c 0 k = iprop(slotPts c k (staged X c k) ∗ xPts X c k) := rfl
theorem pay_sendA (c : Dev nD) (k : Fin 16) : transferPay X c 1 k = sendPts c k fullShare.left (sent X c) := rfl
theorem pay_recvA (c : Dev nD) (k : Fin 16) : transferPay X c 2 k = accPts c k fullShare (sent X (acrossX c)) := rfl
theorem pay_sendB (c : Dev nD) (k : Fin 16) : transferPay X c 3 k = accPts c k fullShare.left (summed X c) := rfl
theorem pay_recvB (c : Dev nD) (k : Fin 16) : transferPay X c 4 k = outPts c (acrossY c) k (result X c) := rfl
theorem pay_copy (c : Dev nD) (k : Fin 16) :
    transferPay X c 5 k = iprop(outPts c c k (result X c) ∗ accPts c k fullShare.right (summed X c)) := rfl

/-- The send chunk's halves, … -/
theorem sendPts_halves (c : Dev nD) (k : Fin 16) (f : S8192x1024.Idx → Elt F .bf16) :
    (sendPts c k fullShare f : sProp 𝕄) ⊣⊢ iprop(sendPts c k fullShare.left f ∗ sendPts c k fullShare.right f) := by
  unfold sendPts; exact pointsTo_share (PosShare.mem_left_op_right fullShare)
/-- … the accumulator chunk's. -/
theorem accPts_halves (c : Dev nD) (k : Fin 16) (f : S8192x1024.Idx → Elt F .bf16) :
    (accPts c k fullShare f : sProp 𝕄) ⊣⊢ iprop(accPts c k fullShare.left f ∗ accPts c k fullShare.right f) := by
  unfold accPts; exact pointsTo_share (PosShare.mem_left_op_right fullShare)

/-! ## The load -/

theorem load_lands (c : Dev nD) (k : Fin 16) (f : S2x512x1024.Idx → Elt F .f32) :
    (((stageSlot k).view.loc (c : Thread nD τ) ↦[(stageSlot k).view.set]{fullShare}
        ((stageSlot k).view.write (Elt F) f ((xChunk c k).view.read (Elt F) (X c)) Finset.univ)) : sProp 𝕄)
      = slotPts c k (staged X c k) := by
  unfold slotPts
  refine pointsTo_congr fun i hi => ?_
  exact write_eq_of_read (stageSlot k).view f (staged X c k) _ (staged_read X c k) i hi

theorem run_loadStart (c : Dev nD) (k : Fin 16) :
    iprop(ctx X K ∗ xPts X c k ∗ (∃ f, slotPts c k f) ∗ dutyTok ER (loadCell c k) 0 false)
      ⊢ run c (loadStart c k) (fun _ => loadCred c k) := by
  unfold loadStart
  simp only [Prog.lift]
  iintro ⟨#Hctx, Hx, ⟨%f, Hs⟩, Htok⟩
  unfold xPts slotPts
  iapply (run_copy X K c (semAt cc0_scratch3 k) 0 k (load_val k) (src := xChunk c k) (dst := stageSlot k) (q := fullShare) (fs := X c) (fd := f)
    wide (stageSlot_credit k) (amount_wide X c _ k (load_val k) false)
    (by rw [load_lands, pay_load]; unfold xPts; exact .rfl)) $$ [Hx Hs Htok]
  · isplitr; · iexact Hctx
    isplitl [Hx]; · iexact Hx
    isplitl [Hs]; · iexact Hs
    iexact Htok
  iintro Hc
  unfold run; rw [wp_ret]; imodintro
  iexact Hc

/-! ## The first exchange -/

theorem sent_lands (c : Dev nD) (k : Fin 16) (f : S8192x1024.Idx → Elt F .bf16) :
    (((accChunk k).view.loc (acrossX c : Thread nD τ) ↦[(accChunk k).view.set]{fullShare}
        ((accChunk k).view.write (Elt F) f ((sendChunk k).view.read (Elt F) (sent X c)) Finset.univ)) : sProp 𝕄)
      = accPts (acrossX c) k fullShare (sent X c) := by
  unfold accPts
  refine pointsTo_congr fun i hi => ?_
  exact write_eq_of_read (accChunk k).view f (sent X c) _ (landed_read X c k) i hi

/-- What the first exchange of chunk `k` starts from, the load's credit apart. -/
def beforeA (c : Dev nD) (k : Fin 16) : sProp 𝕄 :=
  iprop(atPos ER (loadCell c k) 0 ∅ 0 ∗ dutyTok ER (sendACell c k) 0 false ∗ dutyTok ER (recvACell (acrossX c) k) 0 false
    ∗ (∃ f, sendPts c k fullShare f) ∗ ∃ f, accPts (acrossX c) k fullShare f)

theorem run_stepA (c : Dev nD) (k : Fin 16) (O : CellTallies nD τ sig Unit) (hO : Above 0 (O + oweRecvA c k)) :
    iprop(ctx X K ∗ beforeA c k ∗ loadCred c k ∗ owing c (O + oweRecvA c k))
      ⊢ run c (stepA c k) (fun _ => iprop(owing c O ∗ semVal (loadCell c k) 0 ∗ xPts X c k ∗ slotPts c k (staged X c k)
          ∗ sendACred c k ∗ sendPts c k fullShare.right (sent X c))) := by
  unfold stepA
  simp only [Prog.lift, Prog.bind_op, Prog.bind_ret, Prog.pure_eq_ret]
  unfold beforeA
  iintro ⟨#Hctx, ⟨Hat, Hts, Htr, ⟨%f, Hsend⟩, ⟨%f', Hacc⟩⟩, Hcred, Howes⟩
  iapply (run_wait X K c (semAt cc0_scratch3 k) 0 k (load_val k) wide (stageSlot_credit k) (amount_wide X c _ k (load_val k) false)
    (O + oweRecvA c k) (by rw [lv_dma c _ 0 k (load_val k)]; exact hO)) $$ [Hcred Howes Hat]
  · isplitr; · iexact Hctx
    isplitl [Hcred]; · iexact Hcred
    isplitl [Howes]; · iexact Howes
    iexact Hat
  iintro ⟨Howes, Hz, Hpay⟩
  ihave Hpay := (Entails.of_eq (pay_load X c k)) $$ Hpay
  icases Hpay with ⟨Hslot, Hx⟩
  iapply (run_loadSlot c k (staged X c k)) $$ Hslot
  iintro Hslot
  iapply (run_loadSend c k fullShare f) $$ Hsend
  iintro Hsend
  iapply (run_storeSend c k f (sent X c) _ (sent_read X c k)) $$ Hsend
  iintro Hsend
  ihave Hh := (sendPts_halves c k (sent X c)).1 $$ Hsend
  icases Hh with ⟨Hl, Hr⟩
  iapply (run_send X K c (acrossX c) (semAt cc0_scratch4 k) (semAt cc0_scratch5 k) 1 2 k (sendA_val k) (recvA_val k)
    (src := sendChunk k) (dst := accChunk k) (q := fullShare.left) (fs := sent X c) (fd := f')
    narrow (accChunk_credit k) (amount_narrow X c _ 0 k (sendA_val k) false) (amount_narrow X (acrossX c) _ 1 k (recvA_val k) false)
    (by rw [pay_sendA]; unfold sendPts; exact .rfl)
    (by rw [sent_lands, pay_recvA, acrossX_acrossX]) O) $$ [Hl Hacc Howes Hts Htr]
  · isplitr; · iexact Hctx
    isplitl [Hl]; · unfold sendPts; iexact Hl
    isplitl [Hacc]; · unfold accPts; iexact Hacc
    isplitl [Howes]; · iexact Howes
    isplitl [Hts]; · iexact Hts
    iexact Htr
  iintro ⟨Hc, Howes⟩
  unfold run; rw [wp_ret]; imodintro
  isplitl [Howes]; · iexact Howes
  isplitl [Hz]; · iexact Hz
  isplitl [Hx]; · iexact Hx
  isplitl [Hslot]; · iexact Hslot
  isplitl [Hc]; · iexact Hc
  iexact Hr

/-! ## The second exchange -/

theorem summed_lands (c d : Dev nD) (hd : d = c ∨ d = acrossY c) (k : Fin 16) (f : S16384x1024.Idx → Elt F .bf16) :
    (((outChunk c k).view.loc (d : Thread nD τ) ↦[(outChunk c k).view.set]{fullShare}
        ((outChunk c k).view.write (Elt F) f ((accChunk k).view.read (Elt F) (summed X c)) Finset.univ)) : sProp 𝕄)
      = outPts d c k (result X d) := by
  unfold outPts
  refine pointsTo_congr fun i hi => ?_
  exact write_eq_of_read (outChunk c k).view f (result X d) _
    (by rcases hd with rfl | rfl; exacts [result_own X _ k, result_across X c k]) i hi

/-- What the second exchange of chunk `k` starts from. -/
def beforeB (c : Dev nD) (k : Fin 16) : sProp 𝕄 :=
  iprop(atPos ER (recvACell c k) 0 ∅ 0 ∗ recvACred c k
    ∗ dutyTok ER (sendBCell c k) 0 false ∗ dutyTok ER (recvBCell (acrossY c) k) 0 false ∗ dutyTok ER (copyCell c k) 0 false
    ∗ sendPts c k fullShare.right (sent X c) ∗ (∃ f, outPts (acrossY c) c k f) ∗ ∃ f, outPts c c k f)
/-- What it leaves. -/
def afterB (c : Dev nD) (k : Fin 16) : sProp 𝕄 :=
  iprop(semVal (recvACell c k) 0 ∗ sendBCred c k ∗ copyCred c k ∗ sendPts c k fullShare.right (sent X c))

theorem run_stepB (c : Dev nD) (k : Fin 16) (O : CellTallies nD τ sig Unit) (hO : Above 2 (O + oweRecvB c k)) :
    iprop(ctx X K ∗ beforeB X c k ∗ owing c (O + oweRecvB c k))
      ⊢ run c (stepB c k) (fun _ => iprop(afterB X c k ∗ owing c O)) := by
  unfold stepB
  simp only [Prog.lift, Prog.bind_op, Prog.bind_ret, Prog.pure_eq_ret]
  unfold beforeB afterB
  iintro ⟨#Hctx, ⟨Hat, Hcred, Hts, Htr, Htc, Hsend, ⟨%f, Hfar⟩, ⟨%f', Hown⟩⟩, Howes⟩
  iapply (run_wait X K c (semAt cc0_scratch5 k) 2 k (recvA_val k) narrow (accChunk_credit k) (amount_narrow X c _ 1 k (recvA_val k) false)
    (O + oweRecvB c k) (by rw [lv_dma c _ 2 k (recvA_val k)]; exact hO)) $$ [Hcred Howes Hat]
  · isplitr; · iexact Hctx
    isplitl [Hcred]; · iexact Hcred
    isplitl [Howes]; · iexact Howes
    iexact Hat
  iintro ⟨Howes, Hz, Hpay⟩
  ihave Hacc := (Entails.of_eq (pay_recvA X c k)) $$ Hpay
  iapply (run_loadAcc c k fullShare (sent X (acrossX c))) $$ Hacc
  iintro Hacc
  iapply (run_loadSend c k fullShare.right (sent X c)) $$ Hsend
  iintro Hsend
  iapply (run_loadAcc c k fullShare (sent X (acrossX c))) $$ Hacc
  iintro Hacc
  iapply (run_storeAcc c k (sent X (acrossX c)) (summed X c) _ (summed_read X c k)) $$ Hacc
  iintro Hacc
  ihave Hh := (accPts_halves c k (summed X c)).1 $$ Hacc
  icases Hh with ⟨Hl, Hr⟩
  iapply (run_send X K c (acrossY c) (semAt cc0_scratch6 k) (semAt cc0_scratch7 k) 3 4 k (sendB_val k) (recvB_val k)
    (src := accChunk k) (dst := outChunk c k) (q := fullShare.left) (fs := summed X c) (fd := f)
    narrow (outChunk_credit c k) (amount_narrow X c _ 2 k (sendB_val k) false) (amount_narrow X (acrossY c) _ 3 k (recvB_val k) false)
    (by rw [pay_sendB]; unfold accPts; exact .rfl)
    (by rw [summed_lands X c (acrossY c) (Or.inr rfl), pay_recvB, acrossY_acrossY]) O) $$ [Hl Hfar Howes Hts Htr]
  · isplitr; · iexact Hctx
    isplitl [Hl]; · unfold accPts; iexact Hl
    isplitl [Hfar]; · unfold outPts; iexact Hfar
    isplitl [Howes]; · iexact Howes
    isplitl [Hts]; · iexact Hts
    iexact Htr
  iintro ⟨Hcs, Howes⟩
  iapply (run_copy X K c (semAt cc0_scratch8 k) 5 k (copy_val k) (src := accChunk k) (dst := outChunk c k)
    (q := fullShare.right) (fs := summed X c) (fd := f')
    narrow (outChunk_credit c k) (amount_narrow X c _ 4 k (copy_val k) false)
    (by rw [summed_lands X c c (Or.inl rfl), pay_copy]; unfold accPts; exact .rfl)) $$ [Hr Hown Htc]
  · isplitr; · iexact Hctx
    isplitl [Hr]; · unfold accPts; iexact Hr
    isplitl [Hown]; · unfold outPts; iexact Hown
    iexact Htc
  iintro Hcc
  unfold run; rw [wp_ret]; imodintro
  isplitr [Howes]
  · isplitl [Hz]; · iexact Hz
    isplitl [Hcs]; · iexact Hcs
    isplitl [Hcc]; · iexact Hcc
    iexact Hsend
  iexact Howes

/-! ## The closing waits -/

/-- What the closing waits of chunk `k` start from. -/
def beforeC (c : Dev nD) (k : Fin 16) : sProp 𝕄 :=
  iprop((atPos ER (sendBCell c k) 0 ∅ 0 ∗ sendBCred c k) ∗ (atPos ER (recvBCell c k) 0 ∅ 0 ∗ recvBCred c k)
    ∗ (atPos ER (sendACell c k) 0 ∅ 0 ∗ sendACred c k) ∗ (atPos ER (copyCell c k) 0 ∅ 0 ∗ copyCred c k))
/-- What they leave. -/
def afterC (c : Dev nD) (k : Fin 16) : sProp 𝕄 :=
  iprop((semVal (sendBCell c k) 0 ∗ semVal (recvBCell c k) 0 ∗ semVal (sendACell c k) 0 ∗ semVal (copyCell c k) 0)
    ∗ accPts c k fullShare.left (summed X c) ∗ outPts c (acrossY c) k (result X c) ∗ sendPts c k fullShare.left (sent X c)
    ∗ outPts c c k (result X c) ∗ accPts c k fullShare.right (summed X c))

theorem run_stepC (c : Dev nD) (k : Fin 16) (O : CellTallies nD τ sig Unit) (hO : Above 3 O) :
    iprop(ctx X K ∗ beforeC c k ∗ owing c O) ⊢ run c (stepC c k) (fun _ => iprop(afterC X c k ∗ owing c O)) := by
  unfold stepC
  simp only [Prog.lift, Prog.bind_op, Prog.bind_ret, Prog.pure_eq_ret]
  unfold beforeC afterC
  iintro ⟨#Hctx, ⟨⟨Hat1, Hc1⟩, ⟨Hat2, Hc2⟩, ⟨Hat3, Hc3⟩, Hat4, Hc4⟩, Howes⟩
  iapply (run_wait X K c (semAt cc0_scratch6 k) 3 k (sendB_val k) narrow (accChunk_credit k) (amount_narrow X c _ 2 k (sendB_val k) false)
    O (by rw [lv_dma c _ 3 k (sendB_val k)]; exact hO.mono (by decide))) $$ [Hc1 Howes Hat1]
  · isplitr; · iexact Hctx
    isplitl [Hc1]; · iexact Hc1
    isplitl [Howes]; · iexact Howes
    iexact Hat1
  iintro ⟨Howes, Hz1, Hp1⟩
  iapply (run_wait X K c (semAt cc0_scratch7 k) 4 k (recvB_val k) narrow (outChunk_credit c k) (amount_narrow X c _ 3 k (recvB_val k) false)
    O (by rw [lv_dma c _ 4 k (recvB_val k)]; exact hO.mono (by decide))) $$ [Hc2 Howes Hat2]
  · isplitr; · iexact Hctx
    isplitl [Hc2]; · iexact Hc2
    isplitl [Howes]; · iexact Howes
    iexact Hat2
  iintro ⟨Howes, Hz2, Hp2⟩
  iapply (run_wait X K c (semAt cc0_scratch4 k) 1 k (sendA_val k) narrow (sendChunk_credit k) (amount_narrow X c _ 0 k (sendA_val k) false)
    O (by rw [lv_dma c _ 1 k (sendA_val k)]; exact hO.mono (by decide))) $$ [Hc3 Howes Hat3]
  · isplitr; · iexact Hctx
    isplitl [Hc3]; · iexact Hc3
    isplitl [Howes]; · iexact Howes
    iexact Hat3
  iintro ⟨Howes, Hz3, Hp3⟩
  iapply (run_wait X K c (semAt cc0_scratch8 k) 5 k (copy_val k) narrow (outChunk_credit c k) (amount_narrow X c _ 4 k (copy_val k) false)
    O (by rw [lv_dma c _ 5 k (copy_val k)]; exact hO.mono (by decide))) $$ [Hc4 Howes Hat4]
  · isplitr; · iexact Hctx
    isplitl [Hc4]; · iexact Hc4
    isplitl [Howes]; · iexact Howes
    iexact Hat4
  iintro ⟨Howes, Hz4, Hp4⟩
  unfold run; rw [wp_ret]; imodintro
  ihave Hp1 := (Entails.of_eq (pay_sendB X c k)) $$ Hp1
  ihave Hp2 := (Entails.of_eq (pay_recvB X c k)) $$ Hp2
  ihave Hp3 := (Entails.of_eq (pay_sendA X c k)) $$ Hp3
  ihave Hp4 := (Entails.of_eq (pay_copy X c k)) $$ Hp4
  icases Hp4 with ⟨Ho, Ha⟩
  isplitr [Howes]
  · isplitl [Hz1 Hz2 Hz3 Hz4]
    · isplitl [Hz1]; · iexact Hz1
      isplitl [Hz2]; · iexact Hz2
      isplitl [Hz3]; · iexact Hz3
      iexact Hz4
    isplitl [Hp1]; · iexact Hp1
    isplitl [Hp2]; · iexact Hp2
    isplitl [Hp3]; · iexact Hp3
    isplitl [Ho]; · iexact Ho
    iexact Ha
  iexact Howes

/-! ## The meetings -/

/-- Both neighbours told with `A` and `B`, both heard with what they hand over. -/
theorem run_meetAt (c : Dev nD) (s : Sem sig) (O : CellTallies nD τ sig Unit) (hO : Above (lv (cellAt c (.reg s)) ()) O) :
    iprop(ctx X K ∗ owing c (O + tallyAt (cellAt (acrossY c) (.reg s)) () 1 + tallyAt (cellAt (acrossX c) (.reg s)) () 1)
        ∗ (dutyTok ER (cellAt (acrossX c) (.reg s)) 0 false ∗ (sched X).payload (cellAt (acrossX c) (.reg s)) 0 false)
        ∗ (dutyTok ER (cellAt (acrossY c) (.reg s)) 0 true ∗ (sched X).payload (cellAt (acrossY c) (.reg s)) 0 true)
        ∗ cred (tallyAt (cellAt c (.reg s)) () 2) ∗ atPos ER (cellAt c (.reg s)) 0 ∅ 0)
      ⊢ run c (meet s c) (fun _ => iprop(owing c O ∗ semVal (cellAt c (.reg s)) 0
          ∗ (sched X).payload (cellAt c (.reg s)) 0 false ∗ (sched X).payload (cellAt c (.reg s)) 0 true)) := by
  unfold meet
  simp only [semSignalWord, semWaitWord, Prog.lift, Prog.bind_op, Prog.bind_ret, Prog.pure_eq_ret]
  iintro ⟨#Hctx, Howes, ⟨Ht1, Hp1⟩, ⟨Ht2, Hp2⟩, Hcred, Hat⟩
  iapply (run_signal X K c (acrossX c) s false (O + tallyAt (cellAt (acrossY c) (.reg s)) () 1)) $$ [Howes Ht1 Hp1]
  · isplitr; · iexact Hctx
    isplitl [Howes]; · iexact Howes
    isplitl [Ht1]; · iexact Ht1
    iexact Hp1
  iintro Howes
  iapply (run_signal X K c (acrossY c) s true O) $$ [Howes Ht2 Hp2]
  · isplitr; · iexact Hctx
    isplitl [Howes]; · iexact Howes
    isplitl [Ht2]; · iexact Ht2
    iexact Hp2
  iintro Howes
  iapply (run_meet X K c s O hO) $$ [Hcred Howes Hat]
  · isplitr; · iexact Hctx
    isplitl [Hcred]; · iexact Hcred
    isplitl [Howes]; · iexact Howes
    iexact Hat
  iintro H
  unfold run; rw [wp_ret]; imodintro
  iexact H

end Cert.KernelIdeal.Mesh

end
-- ==== Proof.KernelIdeal.Pieces.lean ====
/-
The buffers cut into the pieces the body works on, and the pieces put together again.
-/
module

public import proofs.«01_k».proof.Proof.KernelIdeal.Steps
public import Idealize.ShloMosaic.Lib.Ring

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Args F)

theorem some_intro {A : Type} (Φ : A → sProp 𝕄) (a : A) : Φ a ⊢ iprop(∃ a, Φ a) := by
  iintro H; iexists a; iexact H

/-! ## Which elements a piece has -/

theorem xChunk_set (d : Dev nD) (k : Fin 16) : (xChunk d k).view.set = (halfRect d k).set := View.set_slice_whole main_arg0 _
theorem outChunk_set (d : Dev nD) (k : Fin 16) : (outChunk d k).view.set = (halfRect d k).set := View.set_slice_whole main_v1 _
theorem sendChunk_set (k : Fin 16) : (sendChunk k).view.set = (chunkRect k).set := View.set_slice_whole cc0_scratch1 _
theorem accChunk_set (k : Fin 16) : (accChunk k).view.set = (chunkRect k).set := View.set_slice_whole cc0_scratch2 _
theorem stageSlot_set (k : Fin 16) : (stageSlot k).view.set = (slotRect k).set :=
  (View.set_reshape ((Memref.whole cc0_scratch0).view.slice (slotRect k)) _).trans (View.set_slice_whole cc0_scratch0 _)

/-- Two chunks on, the same slot is held. -/
theorem slotPts_next (c : Dev nD) (k : Fin 16) (h : k.val + 2 < 16) (f : S2x512x1024.Idx → Elt F .f32) :
    (slotPts c ⟨k.val + 2, h⟩ f : sProp 𝕄) = slotPts c k f := by
  unfold slotPts; rw [stageSlot_set, stageSlot_set, slot_next k h]

/-! ## The argument and the result -/

/-- A device's own rows of the argument apart from the other rows. -/
theorem arg_pieces (c : Dev nD) :
    (((c : Thread nD τ).loc main_arg0 ↦{fullShare} X c) : sProp 𝕄)
      = iprop((bigSep Finset.univ fun k : Fin 16 => ((c : Thread nD τ).loc main_arg0 ↦[halfSet c (true, k)]{fullShare} X c))
          ∗ bigSep Finset.univ fun k : Fin 16 => xPts X c k) := by
  refine (Ring.pointsTo_blocks (ℓ := (c : Thread nD τ).loc main_arg0) (halfSet c) (halves_disjoint c) (halves_cover c) (X c)).trans ?_
  rw [bigSep_univ_prod,
    bigSep_univ_eq_bigSepL [true, false] (by decide) (by decide), bigSepL_cons_cons, bigSepL_singleton]
  rw [bigSep_congr (s := Finset.univ) fun (k : Fin 16) _ =>
    show (((c : Thread nD τ).loc main_arg0 ↦[halfSet c (false, k)]{fullShare} X c) : sProp 𝕄) = xPts X c k by
      unfold xPts; rw [xChunk_set]; rfl]
  rfl

/-- The result's two halves. -/
theorem result_pieces (c : Dev nD) (f : S16384x1024.Idx → Elt F .bf16) :
    (((c : Thread nD τ).loc main_v1 ↦{fullShare} f) : sProp 𝕄)
      = iprop((bigSep Finset.univ fun k : Fin 16 => outPts c (acrossY c) k f) ∗ bigSep Finset.univ fun k : Fin 16 => outPts c c k f) := by
  refine (Ring.pointsTo_blocks (ℓ := (c : Thread nD τ).loc main_v1) (halfSet c) (halves_disjoint c) (halves_cover c) f).trans ?_
  rw [bigSep_univ_prod,
    bigSep_univ_eq_bigSepL [true, false] (by decide) (by decide), bigSepL_cons_cons, bigSepL_singleton]
  rw [bigSep_congr (s := Finset.univ) fun (k : Fin 16) _ =>
    show (((c : Thread nD τ).loc main_v1 ↦[halfSet c (false, k)]{fullShare} f) : sProp 𝕄) = outPts c c k f by
      unfold outPts; rw [outChunk_set]; rfl,
    bigSep_congr (s := Finset.univ) fun (k : Fin 16) _ =>
    show (((c : Thread nD τ).loc main_v1 ↦[halfSet c (true, k)]{fullShare} f) : sProp 𝕄) = outPts c (acrossY c) k f by
      unfold outPts; rw [outChunk_set]; rfl]
  rfl

theorem result_free (c : Dev nD) (f : S16384x1024.Idx → Elt F .bf16) :
    (((c : Thread nD τ).loc main_v1 ↦{fullShare} f) : sProp 𝕄) ⊢ iprop(outFree c (acrossY c) ∗ outFree c c) := by
  rw [result_pieces]; unfold outFree
  exact BI.sep_mono (bigSep_mono fun k _ => some_intro _ f) (bigSep_mono fun k _ => some_intro _ f)

/-! ## The buffers of half the result's size -/

theorem send_pieces (c : Dev nD) (q : PosShare TreeShare) (f : S8192x1024.Idx → Elt F .bf16) :
    (((c : Thread nD τ).loc cc0_scratch1 ↦{q} f) : sProp 𝕄) = bigSep Finset.univ fun k : Fin 16 => sendPts c k q f := by
  refine (Ring.pointsTo_blocks (ℓ := (c : Thread nD τ).loc cc0_scratch1) (fun k : Fin 16 => (chunkRect k).set) chunks_disjoint chunks_cover f).trans ?_
  refine bigSep_congr fun k _ => ?_
  unfold sendPts; rw [sendChunk_set]

theorem acc_pieces (c : Dev nD) (q : PosShare TreeShare) (f : S8192x1024.Idx → Elt F .bf16) :
    (((c : Thread nD τ).loc cc0_scratch2 ↦{q} f) : sProp 𝕄) = bigSep Finset.univ fun k : Fin 16 => accPts c k q f := by
  refine (Ring.pointsTo_blocks (ℓ := (c : Thread nD τ).loc cc0_scratch2) (fun k : Fin 16 => (chunkRect k).set) chunks_disjoint chunks_cover f).trans ?_
  refine bigSep_congr fun k _ => ?_
  unfold accPts; rw [accChunk_set]

theorem acc_free (c : Dev nD) (f : S8192x1024.Idx → Elt F .bf16) :
    (((c : Thread nD τ).loc cc0_scratch2 ↦{fullShare} f) : sProp 𝕄) ⊢ accFree c := by
  rw [acc_pieces]; unfold accFree
  exact bigSep_mono fun k _ => some_intro _ f

theorem send_free (c : Dev nD) (f : S8192x1024.Idx → Elt F .bf16) :
    (((c : Thread nD τ).loc cc0_scratch1 ↦{fullShare} f) : sProp 𝕄)
      ⊢ bigSep Finset.univ fun k : Fin 16 => iprop(∃ f, sendPts c k fullShare f) := by
  rw [send_pieces]
  exact bigSep_mono fun k _ => some_intro _ f

/-- The halves of the shares lent and kept make a buffer held whole. -/
theorem send_join (c : Dev nD) :
    iprop((bigSep Finset.univ fun k : Fin 16 => sendPts c k fullShare.left (sent X c))
        ∗ bigSep Finset.univ fun k : Fin 16 => sendPts c k fullShare.right (sent X c))
      ⊢ (((c : Thread nD τ).loc cc0_scratch1 ↦{fullShare} sent X c) : sProp 𝕄) := by
  rw [← bigSep_sep', send_pieces]
  exact bigSep_mono fun k _ => (sendPts_halves c k _).2
theorem acc_join (c : Dev nD) :
    iprop((bigSep Finset.univ fun k : Fin 16 => accPts c k fullShare.left (summed X c))
        ∗ bigSep Finset.univ fun k : Fin 16 => accPts c k fullShare.right (summed X c))
      ⊢ (((c : Thread nD τ).loc cc0_scratch2 ↦{fullShare} summed X c) : sProp 𝕄) := by
  rw [← bigSep_sep', acc_pieces]
  exact bigSep_mono fun k _ => (accPts_halves c k _).2

/-! ## The staging buffer -/

theorem slot_pieces (c : Dev nD) (f : S2x512x1024.Idx → Elt F .f32) :
    (((c : Thread nD τ).loc cc0_scratch0 ↦{fullShare} f) : sProp 𝕄) = iprop(slotPts c 0 f ∗ slotPts c 1 f) := by
  refine (Ring.pointsTo_blocks (ℓ := (c : Thread nD τ).loc cc0_scratch0) slotSet slots_disjoint slots_cover f).trans ?_
  rw [bigSep_univ_eq_bigSepL [0, 1] (by decide) (by decide), bigSepL_cons_cons, bigSepL_singleton]
  unfold slotPts; rw [stageSlot_set, stageSlot_set]; rfl

theorem slot_join (c : Dev nD) (f g : S2x512x1024.Idx → Elt F .f32) :
    iprop(slotPts c 14 f ∗ slotPts c 15 g) ⊢ (iprop(∃ h, (c : Thread nD τ).loc cc0_scratch0 ↦{fullShare} h) : sProp 𝕄) := by
  refine .trans ?_ (Ring.pointsTo_blocks_join_exists slotSet slots_disjoint slots_cover f)
  rw [bigSep_univ_eq_bigSepL [0, 1] (by decide) (by decide), bigSepL_cons_cons, bigSepL_singleton]
  have h14 : (slotRect 14).set = slotSet 0 := Finset.ext fun i => by rw [mem_slot, mem_slot]; exact Iff.rfl
  have h15 : (slotRect 15).set = slotSet 1 := Finset.ext fun i => by rw [mem_slot, mem_slot]; exact Iff.rfl
  unfold slotPts
  rw [stageSlot_set, stageSlot_set, h14, h15]
  exact BI.sep_mono (some_intro _ f) (some_intro _ g)

end Cert.KernelIdeal.Mesh

end
-- ==== Proof.KernelIdeal.Loops.lean ====
/-
The three loops: their invariants, chunk by chunk.
-/
module

public import proofs.«01_k».proof.Proof.KernelIdeal.Pieces

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Sequencing -/

theorem run_then {c : Dev nD} {p : P F PUnit} {β : Type} {k : PUnit → P F β} {Q : β → sProp 𝕄} {A B : sProp 𝕄}
    (h : A ⊢ run c p fun _ => B) : A ⊢ iprop((B -∗ run c (k ⟨⟩) Q) -∗ run c (p >>= k) Q) := by
  iintro HA HK
  unfold run
  rw [wp_bind]
  ihave Hw := h $$ HA
  iapply (wp_wand _ _) $$ Hw
  iintro %a HB
  iapply HK; iexact HB

theorem run_last {c : Dev nD} {p : P F PUnit} {Q : PUnit → sProp 𝕄} {A B : sProp 𝕄}
    (h : A ⊢ run c p fun _ => B) : A ⊢ iprop((B -∗ Q ⟨⟩) -∗ run c p Q) := by
  iintro HA HK
  ihave Hw := h $$ HA
  unfold run
  iapply (wp_wand _ _) $$ Hw
  iintro %a HB
  iapply HK; iexact HB

theorem ofNat_val (k : Fin 16) : Fin.ofNat 16 k.val = k := Fin.ext (Nat.mod_eq_of_lt k.isLt)

theorem run_loop (c : Dev nD) (f : Fin 16 → P F PUnit) (I : ℕ → sProp 𝕄)
    (h : ∀ k : Fin 16, I k.val ⊢ run c (f k) fun _ => I (k.val + 1)) :
    ∀ n j, j + n = 16 → (I j ⊢ run c (loop f n j) fun _ => I 16)
  | 0, j, hj => by
    obtain rfl : j = 16 := by omega
    unfold loop run
    rw [Prog.pure_eq_ret, wp_ret]
    iintro H; imodintro; iexact H
  | n + 1, j, hj => by
    have e := ofNat_val ⟨j, by omega⟩
    have hk : I j ⊢ run c (f (Fin.ofNat 16 j)) fun _ => I (j + 1) := by
      have := h ⟨j, by omega⟩
      rw [← e] at this
      simpa only [Fin.val_ofNat, Nat.mod_eq_of_lt (show j < 16 by omega)] using this
    unfold loop
    iintro H
    iapply (run_then hk) $$ H
    iintro H
    iapply (run_loop c f I h n (j + 1) (by omega)); iexact H

/-! ## Sixteen things, the first ones done -/

/-- One for every chunk. -/
abbrev each (Φ : Fin 16 → sProp 𝕄) : sProp 𝕄 := bigSep Finset.univ Φ

/-- Of sixteen things the first `k` in one state, the others in another. -/
def stage (D T : Fin 16 → sProp 𝕄) (k : ℕ) : sProp 𝕄 := bigSep Finset.univ fun j : Fin 16 => if j.val < k then D j else T j
/-- All but the `k`-th. -/
def others (D T : Fin 16 → sProp 𝕄) (k : Fin 16) : sProp 𝕄 :=
  bigSep (Finset.univ.erase k) fun j : Fin 16 => if j.val < k.val then D j else T j

theorem stage_take (D T : Fin 16 → sProp 𝕄) (k : Fin 16) : stage D T k.val = iprop(T k ∗ others D T k) := by
  unfold stage others
  rw [bigSep_univ_at _ k, if_neg (Nat.lt_irrefl _)]
theorem stage_put (D T : Fin 16 → sProp 𝕄) (k : Fin 16) : stage D T (k.val + 1) = iprop(D k ∗ others D T k) := by
  unfold stage others
  rw [bigSep_univ_at _ k, if_pos (Nat.lt_succ_self _)]
  rw [bigSep_congr (s := Finset.univ.erase k) fun j hj => ?_]
  have hne : j.val ≠ k.val := fun e => (Finset.mem_erase.mp hj).1 (Fin.ext e)
  by_cases hlt : j.val < k.val
  · rw [if_pos hlt, if_pos (by omega)]
  · rw [if_neg hlt, if_neg (by omega)]
theorem stage_none (D T : Fin 16 → sProp 𝕄) : stage D T 0 = each T :=
  bigSep_congr fun j _ => if_neg (Nat.not_lt_zero _)
theorem stage_all (D T : Fin 16 → sProp 𝕄) (k : ℕ) (h : 16 ≤ k) : stage D T k = each D :=
  bigSep_congr fun j _ => if_pos (lt_of_lt_of_le j.isLt h)

/-! ## The first loop -/

variable (X : Args F) (K : Dev nD × SemLoc sig → ℕ)

theorem oweA_at (c : Dev nD) (k : Fin 16) : oweA c (16 - k.val) k.val = oweA c (16 - (k.val + 1)) (k.val + 1) + oweRecvA c k := by
  have h : 16 - k.val = (16 - (k.val + 1)) + 1 := by have := k.isLt; omega
  rw [h, oweA_succ, ofNat_val]
theorem oweB_at (c : Dev nD) (k : Fin 16) : oweB c (16 - k.val) k.val = oweB c (16 - (k.val + 1)) (k.val + 1) + oweRecvB c k := by
  have h : 16 - k.val = (16 - (k.val + 1)) + 1 := by have := k.isLt; omega
  rw [h, oweB_succ, ofNat_val]

/-- The load of chunk `k` on its way, when there is such a chunk. -/
def flying (c : Dev nD) (k : ℕ) : sProp 𝕄 := if h : k < 16 then loadCred c ⟨k, h⟩ else iprop(emp)
/-- What the load of chunk `k` needs, its slot apart. -/
def unloaded (c : Dev nD) (k : Fin 16) : sProp 𝕄 := iprop(xPts X c k ∗ dutyTok ER (loadCell c k) 0 false)
/-- The last two chunks leave their slots free. -/
def slotLeft (c : Dev nD) (k : Fin 16) : sProp 𝕄 := if k.val + 2 < 16 then iprop(emp) else iprop(∃ f, slotPts c k f)
/-- What the first exchange of chunk `k` leaves. -/
def afterA (c : Dev nD) (k : Fin 16) : sProp 𝕄 :=
  iprop(semVal (loadCell c k) 0 ∗ xPts X c k ∗ sendACred c k ∗ sendPts c k fullShare.right (sent X c) ∗ slotLeft c k)

def InvA (c : Dev nD) (k : ℕ) : sProp 𝕄 :=
  iprop(ctx X K ∗ owing c (oweA c (16 - k) k) ∗ stage (afterA X c) (beforeA c) k ∗ flying c k ∗ flying c (k + 1)
    ∗ stage (fun _ => iprop(emp)) (unloaded X c) (k + 2))

theorem run_stepALoad (c : Dev nD) (k : Fin 16) : InvA X K c k.val ⊢ run c (stepALoad c k) fun _ => InvA X K c (k.val + 1) := by
  unfold stepALoad InvA
  rw [oweA_at, stage_take, stage_put]
  have hfl : (flying c k.val : sProp 𝕄) = loadCred c k := dif_pos k.isLt
  rw [hfl]
  iintro ⟨#Hctx, Howes, ⟨Hb, Ho⟩, Hf, Hf', Hu⟩
  iapply (run_then (run_stepA X K c k (oweA c (16 - (k.val + 1)) (k.val + 1))
    (by rw [← oweA_at]; exact (above_oweA c _ _).mono (by decide)))) $$ [Howes Hb Hf]
  · isplitr; · iexact Hctx
    isplitl [Hb]; · iexact Hb
    isplitl [Hf]; · iexact Hf
    iexact Howes
  iintro ⟨Howes, Hz, Hx, Hslot, Hc, Hs⟩
  by_cases h : k.val + 2 < 16
  · rw [dif_pos h]
    have e : (stage (fun _ => iprop(emp)) (unloaded X c) (k.val + 2) : sProp 𝕄) = _ :=
      stage_take (fun _ => iprop(emp)) (unloaded X c) ⟨k.val + 2, h⟩
    have e' : (stage (fun _ => iprop(emp)) (unloaded X c) (k.val + 1 + 2) : sProp 𝕄) = _ :=
      stage_put (fun _ => iprop(emp)) (unloaded X c) ⟨k.val + 2, h⟩
    rw [e']
    ihave Hu := (Entails.of_eq e) $$ Hu
    have hfl2 : (flying c (k.val + 1 + 1) : sProp 𝕄) = loadCred c ⟨k.val + 2, h⟩ := dif_pos h
    rw [hfl2]
    unfold unloaded
    icases Hu with ⟨⟨Hx2, Ht2⟩, Hu⟩
    iapply (run_last (run_loadStart X K c ⟨k.val + 2, h⟩)) $$ [Hx2 Ht2 Hslot]
    · isplitr; · iexact Hctx
      isplitl [Hx2]; · iexact Hx2
      isplitl [Hslot]
      · iexists staged X c k
        rw [slotPts_next]; iexact Hslot
      iexact Ht2
    iintro Hf
    isplitr; · iexact Hctx
    isplitl [Howes]; · iexact Howes
    isplitl [Hz Hx Hc Hs Ho]
    · isplitr [Ho]
      · unfold afterA slotLeft
        rw [if_pos h]
        isplitl [Hz]; · iexact Hz
        isplitl [Hx]; · iexact Hx
        isplitl [Hc]; · iexact Hc
        isplitl [Hs]; · iexact Hs
        iempintro
      iexact Ho
    isplitl [Hf']; · iexact Hf'
    isplitl [Hf]; · iexact Hf
    isplitr; · iempintro
    iexact Hu
  · rw [dif_neg h]
    have hfl2 : (flying c (k.val + 1 + 1) : sProp 𝕄) = iprop(emp) := dif_neg h
    rw [hfl2, stage_all _ _ (k.val + 1 + 2) (by omega)]
    ihave Hu := (Entails.of_eq (stage_all (fun _ => iprop(emp)) (unloaded X c) (k.val + 2) (by omega))) $$ Hu
    unfold run
    rw [Prog.pure_eq_ret, wp_ret]
    imodintro
    isplitr; · iexact Hctx
    isplitl [Howes]; · iexact Howes
    isplitl [Hz Hx Hc Hs Hslot Ho]
    · isplitr [Ho]
      · unfold afterA slotLeft
        rw [if_neg h]
        isplitl [Hz]; · iexact Hz
        isplitl [Hx]; · iexact Hx
        isplitl [Hc]; · iexact Hc
        isplitl [Hs]; · iexact Hs
        iexists _; iexact Hslot
      iexact Ho
    isplitl [Hf']; · iexact Hf'
    isplitr; · iempintro
    iexact Hu

/-! ## The second loop -/

def InvB (c : Dev nD) (k : ℕ) : sProp 𝕄 :=
  iprop(ctx X K ∗ owing c (oweB c (16 - k) k) ∗ stage (afterB X c) (beforeB X c) k)

theorem run_loopB (c : Dev nD) (k : Fin 16) : InvB X K c k.val ⊢ run c (stepB c k) fun _ => InvB X K c (k.val + 1) := by
  unfold InvB
  rw [oweB_at, stage_take, stage_put]
  iintro ⟨#Hctx, Howes, Hb, Ho⟩
  iapply (run_last (run_stepB X K c k (oweB c (16 - (k.val + 1)) (k.val + 1))
    (by rw [← oweB_at]; exact above_oweB c _ _))) $$ [Howes Hb]
  · isplitr; · iexact Hctx
    isplitl [Hb]; · iexact Hb
    iexact Howes
  iintro ⟨Ha, Howes⟩
  isplitr; · iexact Hctx
  isplitl [Howes]; · iexact Howes
  isplitl [Ha]; · iexact Ha
  iexact Ho

/-! ## The third loop -/

def InvC (c : Dev nD) (k : ℕ) : sProp 𝕄 :=
  iprop(ctx X K ∗ owing c (oweClosing c) ∗ stage (afterC X c) (beforeC c) k)

theorem run_loopC (c : Dev nD) (k : Fin 16) : InvC X K c k.val ⊢ run c (stepC c k) fun _ => InvC X K c (k.val + 1) := by
  unfold InvC
  rw [stage_take, stage_put]
  iintro ⟨#Hctx, Howes, Hb, Ho⟩
  iapply (run_last (run_stepC X K c k (oweClosing c) (above_closing c))) $$ [Howes Hb]
  · isplitr; · iexact Hctx
    isplitl [Hb]; · iexact Hb
    iexact Howes
  iintro ⟨Ha, Howes⟩
  isplitr; · iexact Hctx
  isplitl [Howes]; · iexact Howes
  isplitl [Ha]; · iexact Ha
  iexact Ho

end Cert.KernelIdeal.Mesh

end
-- ==== Proof.KernelIdeal.Body.lean ====
/-
The whole body at one device: from everything it holds at the launch to everything it hands back.
-/
module

public import proofs.«01_k».proof.Proof.KernelIdeal.Loops

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Args F) (K : Dev nD × SemLoc sig → ℕ)

/-- One for every semaphore of the device. -/
def perCell (c : Dev nD) (Φ : GSem nD τ sig → sProp 𝕄) : sProp 𝕄 :=
  iprop(Φ (barrierCell c) ∗ Φ (closingCell c) ∗ each (fun k => Φ (loadCell c k)) ∗ each (fun k => Φ (sendACell c k))
    ∗ each (fun k => Φ (recvACell c k)) ∗ each (fun k => Φ (sendBCell c k)) ∗ each (fun k => Φ (recvBCell c k)) ∗ each fun k => Φ (copyCell c k))

/-- The duties device `c` meets. -/
def tokens (c : Dev nD) : sProp 𝕄 :=
  iprop((dutyTok ER (barrierCell (acrossX c)) 0 false ∗ dutyTok ER (barrierCell (acrossY c)) 0 true)
    ∗ (dutyTok ER (closingCell (acrossX c)) 0 false ∗ dutyTok ER (closingCell (acrossY c)) 0 true)
    ∗ each (fun k => dutyTok ER (loadCell c k) 0 false) ∗ each (fun k => dutyTok ER (sendACell c k) 0 false)
    ∗ each (fun k => dutyTok ER (recvACell (acrossX c) k) 0 false) ∗ each (fun k => dutyTok ER (sendBCell c k) 0 false)
    ∗ each (fun k => dutyTok ER (recvBCell (acrossY c) k) 0 false) ∗ each fun k => dutyTok ER (copyCell c k) 0 false)

/-- What the other devices' debts entitle device `c` to. -/
def credits (c : Dev nD) : sProp 𝕄 :=
  iprop(cred (tallyAt (barrierCell c) () 2) ∗ cred (tallyAt (closingCell c) () 2) ∗ each (recvACred c) ∗ each (recvBCred c))

/-- The scoped buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What a device's body starts from, its debts apart … -/
def bodyPre (c : Dev nD) : sProp 𝕄 :=
  iprop(ctx X K ∗ perCell c (fun g => atPos ER g 0 ∅ 0) ∗ tokens c ∗ credits c
    ∗ ((c : Thread nD τ).loc main_arg0 ↦{fullShare} X c) ∗ (∃ f : Buf (Elt F) ((c : Thread nD τ).loc main_v1), (c : Thread nD τ).loc main_v1 ↦{fullShare} f)
    ∗ scratch c)
/-- … and what it ends with. -/
def bodyPost (c : Dev nD) : sProp 𝕄 :=
  iprop(perCell c (fun g => semVal g 0)
    ∗ ((c : Thread nD τ).loc main_arg0 ↦{fullShare} X c) ∗ ((c : Thread nD τ).loc main_v1 ↦{fullShare} result X c)
    ∗ scratch c)

/-! ## The states of all chunks -/

theorem beforeA_all (c : Dev nD) : (each (beforeA c) : sProp 𝕄)
    = iprop(each (fun k => atPos ER (loadCell c k) 0 ∅ 0) ∗ each (fun k => dutyTok ER (sendACell c k) 0 false)
      ∗ each (fun k => dutyTok ER (recvACell (acrossX c) k) 0 false) ∗ each (fun k => iprop(∃ f, sendPts c k fullShare f)) ∗ accFree (acrossX c)) := by
  unfold beforeA accFree; simp only [bigSep_sep']
theorem unloaded_all (c : Dev nD) : (each (unloaded X c) : sProp 𝕄)
    = iprop(each (fun k => xPts X c k) ∗ each (fun k => dutyTok ER (loadCell c k) 0 false)) := by
  unfold unloaded; simp only [bigSep_sep']
theorem afterA_all (c : Dev nD) : (each (afterA X c) : sProp 𝕄)
    = iprop(each (fun k => semVal (loadCell c k) 0) ∗ each (fun k => xPts X c k) ∗ each (sendACred c)
      ∗ each (fun k => sendPts c k fullShare.right (sent X c)) ∗ each (slotLeft c)) := by
  unfold afterA; simp only [bigSep_sep']
theorem beforeB_all (c : Dev nD) : (each (beforeB X c) : sProp 𝕄)
    = iprop(each (fun k => atPos ER (recvACell c k) 0 ∅ 0) ∗ each (recvACred c)
      ∗ each (fun k => dutyTok ER (sendBCell c k) 0 false) ∗ each (fun k => dutyTok ER (recvBCell (acrossY c) k) 0 false)
      ∗ each (fun k => dutyTok ER (copyCell c k) 0 false) ∗ each (fun k => sendPts c k fullShare.right (sent X c))
      ∗ outFree (acrossY c) c ∗ outFree c c) := by
  unfold beforeB outFree; simp only [bigSep_sep']
theorem afterB_all (c : Dev nD) : (each (afterB X c) : sProp 𝕄)
    = iprop(each (fun k => semVal (recvACell c k) 0) ∗ each (sendBCred c) ∗ each (copyCred c)
      ∗ each (fun k => sendPts c k fullShare.right (sent X c))) := by
  unfold afterB; simp only [bigSep_sep']
theorem beforeC_all (c : Dev nD) : (each (beforeC c) : sProp 𝕄)
    = iprop((each (fun k => atPos ER (sendBCell c k) 0 ∅ 0) ∗ each (sendBCred c)) ∗ (each (fun k => atPos ER (recvBCell c k) 0 ∅ 0) ∗ each (recvBCred c))
      ∗ (each (fun k => atPos ER (sendACell c k) 0 ∅ 0) ∗ each (sendACred c)) ∗ (each (fun k => atPos ER (copyCell c k) 0 ∅ 0) ∗ each (copyCred c))) := by
  unfold beforeC; simp only [bigSep_sep']
theorem afterC_all (c : Dev nD) : (each (afterC X c) : sProp 𝕄)
    = iprop((each (fun k => semVal (sendBCell c k) 0) ∗ each (fun k => semVal (recvBCell c k) 0)
        ∗ each (fun k => semVal (sendACell c k) 0) ∗ each (fun k => semVal (copyCell c k) 0))
      ∗ each (fun k => accPts c k fullShare.left (summed X c)) ∗ each (fun k => outPts c (acrossY c) k (result X c))
      ∗ each (fun k => sendPts c k fullShare.left (sent X c)) ∗ each (fun k => outPts c c k (result X c))
      ∗ each (fun k => accPts c k fullShare.right (summed X c))) := by
  unfold afterC; simp only [bigSep_sep']

/-- The last two chunks' slots are the staging buffer. -/
theorem slots_left (c : Dev nD) : (each (slotLeft c) : sProp 𝕄)
    ⊢ iprop(∃ f : Buf (Elt F) ((c : Thread nD τ).loc cc0_scratch0), ((c : Thread nD τ).loc cc0_scratch0) ↦{fullShare} f) := by
  have h15 : bigSep (Finset.univ.erase (14 : Fin 16)) (slotLeft (F := F) c) ⊢ slotLeft c 15 :=
    bigSep_elim (Finset.mem_erase.mpr ⟨by decide, Finset.mem_univ _⟩)
  have e14 : (slotLeft c 14 : sProp 𝕄) = iprop(∃ f, slotPts c 14 f) := if_neg (by decide)
  have e15 : (slotLeft c 15 : sProp 𝕄) = iprop(∃ f, slotPts c 15 f) := if_neg (by decide)
  unfold each
  rw [bigSep_univ_at _ (14 : Fin 16)]
  refine (sep_mono_right h15).trans ?_
  rw [e14, e15]
  iintro ⟨⟨%f, H⟩, ⟨%g, H'⟩⟩
  iapply (slot_join c f g)
  isplitl [H]; · iexact H
  iexact H'

/-! ## The body -/

theorem run_body (c : Dev nD) :
    iprop(bodyPre X K c ∗ owing c (oweAll c)) ⊢ run c body fun _ => iprop(bodyPost X c ∗ owing c 0) := by
  unfold body run bodyPre bodyPost scratch perCell tokens credits
  simp only [Prog.lift, Prog.bind_op, Prog.bind_ret, wp_deviceId]
  iintro ⟨⟨#Hctx, ⟨Hab, Hac, Ha0, Ha1, Ha2, Ha3, Ha4, Ha5⟩, ⟨⟨Htb, Htb'⟩, ⟨Htc, Htc'⟩, Ht0, Ht1, Ht2, Ht3, Ht4, Ht5⟩,
    ⟨Hcb, Hcc, Hc2, Hc4⟩, Hx, ⟨%fo, Hout⟩, ⟨%f0, Hs0⟩, ⟨%f1, Hs1⟩, %f2, Hs2⟩, Howes⟩
  ihave Ho := (result_free c fo) $$ Hout
  icases Ho with ⟨Hfar, Hown⟩
  ihave Hacc := (acc_free c f2) $$ Hs2
  ihave Hsend := (send_free c f1) $$ Hs1
  ihave Hx := (Entails.of_eq (arg_pieces X c)) $$ Hx
  icases Hx with ⟨Hrest, Hx⟩
  ihave Hsl := (Entails.of_eq (slot_pieces c f0)) $$ Hs0
  icases Hsl with ⟨Hsl0, Hsl1⟩
  -- the first meeting hands over what the neighbours write to
  iapply (run_then (run_meetAt X K c barrier (oweA c 16 0) (by rw [lv_barrier]; exact above_oweA c 16 0)))
    $$ [Howes Htb Htb' Hacc Hfar Hcb Hab]
  · isplitr; · iexact Hctx
    isplitl [Howes]; · unfold oweAll; iexact Howes
    isplitl [Htb Hacc]
    · isplitl [Htb]; · iexact Htb
      rw [payload_barrier, if_neg (by decide), acrossX_acrossX]; iexact Hacc
    isplitl [Htb' Hfar]
    · isplitl [Htb']; · iexact Htb'
      rw [payload_barrier, if_pos rfl, acrossY_acrossY]; iexact Hfar
    isplitl [Hcb]; · iexact Hcb
    iexact Hab
  iintro ⟨Howes, Hzb, Hp, Hp'⟩
  ihave Hacc := (Entails.of_eq ((payload_barrier X c false).trans (if_neg (by decide)))) $$ Hp
  ihave Hfar := (Entails.of_eq ((payload_barrier X c true).trans (if_pos rfl))) $$ Hp'
  -- the first two loads
  ihave Hu := (Entails.of_eq (unloaded_all X c).symm) $$ [Hx Ht0]
  · isplitl [Hx]; · iexact Hx
    iexact Ht0
  have e0 : (each (unloaded X c) : sProp 𝕄) = iprop(unloaded X c 0 ∗ others (fun _ => iprop(emp)) (unloaded X c) 0) :=
    (stage_none (fun _ => iprop(emp)) (unloaded X c)).symm.trans (stage_take _ _ 0)
  have e1 : (iprop(emp ∗ others (fun _ => iprop(emp)) (unloaded X c) 0) : sProp 𝕄)
      = iprop(unloaded X c 1 ∗ others (fun _ => iprop(emp)) (unloaded X c) 1) :=
    (stage_put (fun _ => iprop(emp)) (unloaded X c) 0).symm.trans (stage_take _ _ 1)
  ihave Hu := (Entails.of_eq e0) $$ Hu
  icases Hu with ⟨Hu0, Hu⟩
  ihave Hu := (Entails.of_eq e1) $$ [Hu]
  · isplitr; · iempintro
    iexact Hu
  icases Hu with ⟨Hu1, Hu⟩
  unfold unloaded
  icases Hu0 with ⟨Hx0, Ht0⟩
  icases Hu1 with ⟨Hx1, Ht1'⟩
  iapply (run_then (run_loadStart X K c 0)) $$ [Hx0 Ht0 Hsl0]
  · isplitr; · iexact Hctx
    isplitl [Hx0]; · iexact Hx0
    isplitl [Hsl0]; · iexists f0; iexact Hsl0
    iexact Ht0
  iintro Hf0
  iapply (run_then (run_loadStart X K c 1)) $$ [Hx1 Ht1' Hsl1]
  · isplitr; · iexact Hctx
    isplitl [Hx1]; · iexact Hx1
    isplitl [Hsl1]; · iexists f0; iexact Hsl1
    iexact Ht1'
  iintro Hf1
  -- the first exchange
  iapply (run_then (run_loop c (stepALoad c) (InvA X K c) (run_stepALoad X K c) 16 0 rfl)) $$ [Howes Ha0 Ht1 Ht2 Hsend Hacc Hf0 Hf1 Hu]
  · unfold InvA
    isplitr; · iexact Hctx
    isplitl [Howes]; · iexact Howes
    isplitl [Ha0 Ht1 Ht2 Hsend Hacc]
    · rw [stage_none, beforeA_all]
      isplitl [Ha0]; · iexact Ha0
      isplitl [Ht1]; · iexact Ht1
      isplitl [Ht2]; · iexact Ht2
      isplitl [Hsend]; · iexact Hsend
      iexact Hacc
    have hf0 : (flying c 0 : sProp 𝕄) = loadCred c 0 := dif_pos (by decide)
    have hf1 : (flying c (0 + 1) : sProp 𝕄) = loadCred c 1 := dif_pos (by decide)
    rw [hf0, hf1]
    isplitl [Hf0]; · iexact Hf0
    isplitl [Hf1]; · iexact Hf1
    have e2 : (stage (fun _ => iprop(emp)) (unloaded X c) (0 + 2) : sProp 𝕄) = _ := stage_put (fun _ => iprop(emp)) (unloaded X c) 1
    rw [e2]
    isplitr; · iempintro
    iexact Hu
  unfold InvA
  iintro ⟨-, Howes, Hst, -⟩
  ihave Hst := (Entails.of_eq ((stage_all _ _ 16 (le_refl _)).trans (afterA_all X c))) $$ Hst
  icases Hst with ⟨Hz0, Hx, Hc1, Hsend, Hslots⟩
  -- the second exchange
  iapply (run_then (run_loop c (stepB c) (InvB X K c) (run_loopB X K c) 16 0 rfl)) $$ [Howes Ha2 Hc2 Ht3 Ht4 Ht5 Hsend Hfar Hown]
  · unfold InvB
    isplitr; · iexact Hctx
    isplitl [Howes]; · rw [oweA_zero]; iexact Howes
    rw [stage_none, beforeB_all]
    isplitl [Ha2]; · iexact Ha2
    isplitl [Hc2]; · iexact Hc2
    isplitl [Ht3]; · iexact Ht3
    isplitl [Ht4]; · iexact Ht4
    isplitl [Ht5]; · iexact Ht5
    isplitl [Hsend]; · iexact Hsend
    isplitl [Hfar]; · iexact Hfar
    iexact Hown
  unfold InvB
  iintro ⟨-, Howes, Hst⟩
  ihave Hst := (Entails.of_eq ((stage_all _ _ 16 (le_refl _)).trans (afterB_all X c))) $$ Hst
  icases Hst with ⟨Hz2, Hc3, Hc5, Hsend⟩
  -- the closing waits
  iapply (run_then (run_loop c (stepC c) (InvC X K c) (run_loopC X K c) 16 0 rfl)) $$ [Howes Ha1 Ha3 Ha4 Ha5 Hc1 Hc3 Hc4 Hc5]
  · unfold InvC
    isplitr; · iexact Hctx
    isplitl [Howes]; · rw [oweB_zero]; iexact Howes
    rw [stage_none, beforeC_all]
    isplitl [Ha3 Hc3]
    · isplitl [Ha3]; · iexact Ha3
      iexact Hc3
    isplitl [Ha4 Hc4]
    · isplitl [Ha4]; · iexact Ha4
      iexact Hc4
    isplitl [Ha1 Hc1]
    · isplitl [Ha1]; · iexact Ha1
      iexact Hc1
    isplitl [Ha5]; · iexact Ha5
    iexact Hc5
  unfold InvC
  iintro ⟨-, Howes, Hst⟩
  ihave Hst := (Entails.of_eq ((stage_all _ _ 16 (le_refl _)).trans (afterC_all X c))) $$ Hst
  icases Hst with ⟨⟨Hz3, Hz4, Hz1, Hz5⟩, Hal, Hfar, Hsl, Hown, Har⟩
  -- the second meeting
  iapply (run_last (run_meetAt X K c closing 0 (above_zero _))) $$ [Howes Htc Htc' Hcc Hac]
  · isplitr; · iexact Hctx
    isplitl [Howes]; · rw [zero_add]; unfold oweClosing; iexact Howes
    isplitl [Htc]
    · isplitl [Htc]; · iexact Htc
      rw [payload_closing]; iempintro
    isplitl [Htc']
    · isplitl [Htc']; · iexact Htc'
      rw [payload_closing]; iempintro
    isplitl [Hcc]; · iexact Hcc
    iexact Hac
  iintro ⟨Howes, Hzc, -⟩
  isplitr [Howes]
  · isplitl [Hzb Hzc Hz0 Hz1 Hz2 Hz3 Hz4 Hz5]
    · isplitl [Hzb]; · iexact Hzb
      isplitl [Hzc]; · iexact Hzc
      isplitl [Hz0]; · iexact Hz0
      isplitl [Hz1]; · iexact Hz1
      isplitl [Hz2]; · iexact Hz2
      isplitl [Hz3]; · iexact Hz3
      isplitl [Hz4]; · iexact Hz4
      iexact Hz5
    isplitl [Hrest Hx]
    · iapply (Entails.of_eq (arg_pieces X c).symm)
      isplitl [Hrest]; · iexact Hrest
      iexact Hx
    isplitl [Hfar Hown]
    · iapply (Entails.of_eq (result_pieces c (result X c)).symm)
      isplitl [Hfar]; · iexact Hfar
      iexact Hown
    isplitl [Hslots]; · iapply (slots_left c); iexact Hslots
    isplitl [Hsl Hsend]
    · iexists sent X c
      iapply (send_join X c)
      isplitl [Hsl]; · iexact Hsl
      iexact Hsend
    iexists summed X c
    iapply (acc_join X c)
    isplitl [Hal]; · iexact Hal
    iexact Har
  iexact Howes

end Cert.KernelIdeal.Mesh

end
-- ==== Proof.KernelIdeal.Cells.lean ====
/-
All the semaphores of a device, counted; the duties met at them; what the devices owe each other at the launch.
-/
module

public import proofs.«01_k».proof.Proof.KernelIdeal.Body

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The semaphores -/

/-- The `k`-th semaphore of the `a`-th array. -/
abbrev dmaOf (a : Fin 6) (k : Fin 16) : DmaSem sig :=
  semAt ((![cc0_scratch3, cc0_scratch4, cc0_scratch5, cc0_scratch6, cc0_scratch7, cc0_scratch8] : Fin 6 → DmaSems sig S16) a) k

theorem dmaOf_val (a : Fin 6) (k : Fin 16) : (dmaOf a k).val = 16 * a.val + k.val := by revert a k; decide +kernel

theorem dmaOf_inj {a a' : Fin 6} {k k' : Fin 16} (h : dmaOf a k = dmaOf a' k') : a = a' ∧ k = k' := by
  have e : (dmaOf a k).val = (dmaOf a' k').val := congrArg _ h
  rw [dmaOf_val, dmaOf_val] at e
  exact ⟨Fin.ext (by omega), Fin.ext (by omega)⟩

theorem barrier_ne_closing : (SemLoc.reg barrier : SemLoc sig) ≠ .reg closing := by decide +kernel

/-- The semaphores, each once: two counted by signals, ninety-six by transfers. -/
def semOf : Bool ⊕ (Fin 6 × Fin 16) → SemLoc sig
  | .inl false => .reg barrier
  | .inl true => .reg closing
  | .inr p => .dma (dmaOf p.1 p.2)

theorem semOf_injective : Function.Injective semOf := by
  rintro (b | ⟨a, k⟩) (b' | ⟨a', k'⟩) h
  · cases b <;> cases b'
    · rfl
    · exact absurd h barrier_ne_closing
    · exact absurd h.symm barrier_ne_closing
    · rfl
  · exact absurd h (by cases b <;> simp [semOf])
  · exact absurd h (by cases b' <;> simp [semOf])
  · obtain ⟨rfl, rfl⟩ := dmaOf_inj (SemLoc.dma.inj h); rfl

theorem sem_card : Fintype.card (SemLoc sig) = 98 := by decide +kernel

theorem semOf_bijective : Function.Bijective semOf :=
  (Fintype.bijective_iff_injective_and_card _).mpr ⟨semOf_injective, by rw [sem_card]; decide⟩

theorem perArray (Φ : Fin 6 × Fin 16 → sProp 𝕄) : bigSep Finset.univ Φ
    = iprop(each (fun k => Φ (0, k)) ∗ each (fun k => Φ (1, k)) ∗ each (fun k => Φ (2, k)) ∗ each (fun k => Φ (3, k))
      ∗ each (fun k => Φ (4, k)) ∗ each fun k => Φ (5, k)) := by
  rw [bigSep_univ_prod, bigSep_univ_eq_bigSepL [0, 1, 2, 3, 4, 5] (by decide) (by decide)]
  rfl

/-- Something for every semaphore of a device. -/
theorem perCell_eq (c : Dev nD) (Φ : GSem nD τ sig → sProp 𝕄) :
    (bigSep Finset.univ fun sm : SemLoc sig => Φ (cellAt c sm)) = perCell c Φ := by
  rw [bigSep_univ_equiv (Equiv.ofBijective semOf semOf_bijective), bigSep_univ_sum,
    bigSep_univ_eq_bigSepL [false, true] (by decide) (by decide), perArray]
  exact (BI.sep_assoc (M := 𝕄)).antisymm BI.sep_assoc'

/-! ## The semaphores the kernel scopes -/

/-- Those allocated around the body: all but the barrier. -/
def ownSem : Unit ⊕ (Fin 6 × Fin 16) → SemLoc sig
  | .inl _ => .reg closing
  | .inr p => .dma (dmaOf p.1 p.2)

theorem closing_scoped : (SemLoc.reg closing : SemLoc sig).isScoped .tc = true := by decide +kernel
theorem dma_scoped (a : Fin 6) (k : Fin 16) : (SemLoc.dma (dmaOf a k) : SemLoc sig).isScoped .tc = true := by revert a k; decide +kernel

theorem ownSem_facts : Pipeline.OwnSemFacts cfg0.spec ownSem where
  isScoped p := by
    cases p with
    | inl p => exact closing_scoped
    | inr p => exact dma_scoped p.1 p.2
  inj := by
    rintro (u | ⟨a, k⟩) (u' | ⟨a', k'⟩) h
    · rfl
    · exact absurd h (by simp [ownSem])
    · exact absurd h (by simp [ownSem])
    · obtain ⟨rfl, rfl⟩ := dmaOf_inj (SemLoc.dma.inj h); rfl
  disj p w s := w.elim0

theorem unscoped_sems (c : Dev nD) : (unscopedSems0 c : sProp 𝕄) = semVal (barrierCell c) 0 := by
  unfold unscopedSems0; rw [bigSep_eq_bigSepL_of_eq [SemLoc.reg barrier] (by decide +kernel) (by decide)]; rfl

theorem own_sems (c : Dev nD) : (Pipeline.ownSems0 (Ix := Unit) (Name := ℕ) (U := UU) (Lvl := ℕ) (Val := Elt F) (τ := τ) ownSem c : sProp 𝕄)
    = iprop(semVal (closingCell c) 0 ∗ bigSep Finset.univ fun p : Fin 6 × Fin 16 => semVal (cellAt c (.dma (dmaOf p.1 p.2))) 0) := by
  unfold Pipeline.ownSems0
  rw [bigSep_univ_sum, bigSep_univ_eq_bigSepL [()] (by decide) (by decide), bigSepL_singleton]
  rfl

theorem sems_zero (c : Dev nD) :
    (iprop(Pipeline.ownSems0 (Ix := Unit) (Name := ℕ) (U := UU) (Lvl := ℕ) (Val := Elt F) (τ := τ) ownSem c ∗ unscopedSems0 c) : sProp 𝕄)
      ⊢ perCell c fun g => semVal g 0 := by
  rw [own_sems, unscoped_sems, perArray]
  unfold perCell
  iintro ⟨⟨H1, H2⟩, H3⟩
  isplitl [H3]; · iexact H3
  isplitl [H1]; · iexact H1
  iexact H2

theorem zero_sems (c : Dev nD) : (perCell c fun g => semVal g 0) ⊢
    (iprop(unscopedSems0 c ∗ Pipeline.ownSems0 (Ix := Unit) (Name := ℕ) (U := UU) (Lvl := ℕ) (Val := Elt F) (τ := τ) ownSem c) : sProp 𝕄) := by
  rw [own_sems, unscoped_sems, perArray]
  unfold perCell
  iintro ⟨H1, H2, H3⟩
  isplitl [H1]; · iexact H1
  isplitl [H2]; · iexact H2
  iexact H3

/-! ## The cells and duties of all devices -/

theorem cellAt_injective : Function.Injective fun p : Dev nD × SemLoc sig => cellAt p.1 p.2 := by
  rintro ⟨c, s⟩ ⟨c', s'⟩ h
  have h1 : c = c' := congrArg (fun g : GSem nD τ sig => g.1.1) h
  have h2 : s = s' := congrArg Prod.snd h
  rw [h1, h2]

def allCells : Finset (GSem nD τ sig) := Finset.univ.map ⟨fun p : Dev nD × SemLoc sig => cellAt p.1 p.2, cellAt_injective⟩

/-- Two duties at each semaphore counted by signals, one at each counted by transfers. -/
def dutyOf (p : Dev nD × ((Bool × Bool) ⊕ (Fin 6 × Fin 16))) : GSem nD τ sig × ℕ × Bool :=
  match p.2 with
  | .inl b => (cellAt p.1 (semOf (.inl b.1)), 0, b.2)
  | .inr q => (cellAt p.1 (semOf (.inr q)), 0, false)

theorem dutyOf_injective : Function.Injective dutyOf := by
  rintro ⟨c, b | q⟩ ⟨c', b' | q'⟩ h
  · have h1 := cellAt_injective (a₁ := (c, semOf (.inl b.1))) (a₂ := (c', semOf (.inl b'.1))) (congrArg Prod.fst h)
    have h2 : b.2 = b'.2 := congrArg (fun x : GSem nD τ sig × ℕ × Bool => x.2.2) h
    have h3 := Sum.inl.inj (semOf_injective (congrArg Prod.snd h1))
    have h4 : c = c' := congrArg Prod.fst h1
    rw [h4, Prod.ext h3 h2]
  · have h1 := cellAt_injective (a₁ := (c, semOf (.inl b.1))) (a₂ := (c', semOf (.inr q'))) (congrArg Prod.fst h)
    exact absurd (semOf_injective (congrArg Prod.snd h1)) Sum.inl_ne_inr
  · have h1 := cellAt_injective (a₁ := (c, semOf (.inr q))) (a₂ := (c', semOf (.inl b'.1))) (congrArg Prod.fst h)
    exact absurd (semOf_injective (congrArg Prod.snd h1)) Sum.inr_ne_inl
  · have h1 := cellAt_injective (a₁ := (c, semOf (.inr q))) (a₂ := (c', semOf (.inr q'))) (congrArg Prod.fst h)
    have h3 := Sum.inr.inj (semOf_injective (congrArg Prod.snd h1))
    have h4 : c = c' := congrArg Prod.fst h1
    rw [h4, h3]

def allDuties : Finset (GSem nD τ sig × ℕ × Bool) := Finset.univ.map ⟨dutyOf, dutyOf_injective⟩

/-- The duties met at device `c`'s semaphores. -/
def duesAt (c : Dev nD) : sProp 𝕄 :=
  iprop((dutyTok ER (barrierCell c) 0 false ∗ dutyTok ER (barrierCell c) 0 true)
    ∗ (dutyTok ER (closingCell c) 0 false ∗ dutyTok ER (closingCell c) 0 true)
    ∗ each (fun k => dutyTok ER (loadCell c k) 0 false) ∗ each (fun k => dutyTok ER (sendACell c k) 0 false)
    ∗ each (fun k => dutyTok ER (recvACell c k) 0 false) ∗ each (fun k => dutyTok ER (sendBCell c k) 0 false)
    ∗ each (fun k => dutyTok ER (recvBCell c k) 0 false) ∗ each fun k => dutyTok ER (copyCell c k) 0 false)

theorem duesAt_eq (c : Dev nD) :
    (bigSep Finset.univ fun q : (Bool × Bool) ⊕ (Fin 6 × Fin 16) => (dutyTok ER (dutyOf (c, q)).1 (dutyOf (c, q)).2.1 (dutyOf (c, q)).2.2 : sProp 𝕄))
      = duesAt c := by
  rw [bigSep_univ_sum, perArray, bigSep_univ_prod, bigSep_univ_eq_bigSepL [false, true] (by decide) (by decide),
    bigSepL_cons_cons, bigSepL_singleton]
  rw [bigSep_univ_eq_bigSepL [false, true] (by decide) (by decide), bigSep_univ_eq_bigSepL [false, true] (by decide) (by decide)]
  exact (BI.sep_assoc (M := 𝕄)).antisymm BI.sep_assoc'

/-- Across the first axis, and across the second: each its own inverse. -/
def flipX : Dev nD ≃ Dev nD := ⟨acrossX, acrossX, acrossX_acrossX, acrossX_acrossX⟩
def flipY : Dev nD ≃ Dev nD := ⟨acrossY, acrossY, acrossY_acrossY, acrossY_acrossY⟩

/-- Dealt to the devices that meet them. -/
theorem dues_dealt : (bigSep Finset.univ fun c : Dev nD => (duesAt c : sProp 𝕄)) ⊢ bigSep Finset.univ fun c : Dev nD => tokens c := by
  unfold duesAt tokens
  simp only [bigSep_sep']
  rw [bigSep_univ_equiv flipX (fun c : Dev nD => (dutyTok ER (barrierCell c) 0 false : sProp 𝕄)),
    bigSep_univ_equiv flipY (fun c : Dev nD => (dutyTok ER (barrierCell c) 0 true : sProp 𝕄)),
    bigSep_univ_equiv flipX (fun c : Dev nD => (dutyTok ER (closingCell c) 0 false : sProp 𝕄)),
    bigSep_univ_equiv flipY (fun c : Dev nD => (dutyTok ER (closingCell c) 0 true : sProp 𝕄)),
    bigSep_univ_equiv flipX (fun c : Dev nD => (each (fun k => dutyTok ER (recvACell c k) 0 false) : sProp 𝕄)),
    bigSep_univ_equiv flipY (fun c : Dev nD => (each (fun k => dutyTok ER (recvBCell c k) 0 false) : sProp 𝕄))]
  exact .rfl

/-! ## What is owed at the launch -/

theorem from_apply (f : Fin 16 → CellTallies nD τ sig Unit) (g : GSem nD τ sig) :
    ∀ n j, owedFrom f n j g () = ∑ i ∈ Finset.range n, f (Fin.ofNat 16 (j + i)) g ()
  | 0, j => rfl
  | n + 1, j => by
    rw [Finset.sum_range_succ', Nat.add_zero]
    show owedFrom f n (j + 1) g () + f (Fin.ofNat 16 j) g () = _
    rw [from_apply f g n (j + 1)]
    exact congrArg (· + _) (Finset.sum_congr rfl fun i _ => by rw [Nat.add_right_comm, Nat.add_assoc])

theorem all_apply (f : Fin 16 → CellTallies nD τ sig Unit) (g : GSem nD τ sig) : owedFrom f 16 0 g () = ∑ k : Fin 16, f k g () := by
  rw [from_apply, Finset.sum_range]
  exact Finset.sum_congr rfl fun k _ => by rw [Nat.zero_add, ofNat_val]

theorem at_apply (c d : Dev nD) (s s' : SemLoc sig) (N : ℕ) :
    (tallyAt (cellAt d s) () N : CellTallies nD τ sig Unit) (cellAt c s') () = if c = d ∧ s' = s then N else 0 := by
  rw [tallyAt_apply]
  have e : (cellAt c s' = cellAt d s ∧ () = ()) ↔ (c = d ∧ s' = s) :=
    ⟨fun h => by have := cellAt_injective (a₁ := (c, s')) (a₂ := (d, s)) h.1; exact ⟨congrArg Prod.fst this, congrArg Prod.snd this⟩,
      fun h => ⟨by rw [h.1, h.2], rfl⟩⟩
  exact if_congr e rfl rfl

theorem owed_apply (c d : Dev nD) (s : SemLoc sig) :
    oweAll d (cellAt c s) () = ((((if c = acrossY d ∧ s = .reg closing then 1 else 0) + (if c = acrossX d ∧ s = .reg closing then 1 else 0))
        + (∑ k : Fin 16, if c = acrossY d ∧ s = .dma (dmaOf 4 k) then narrow else 0))
        + (∑ k : Fin 16, if c = acrossX d ∧ s = .dma (dmaOf 2 k) then narrow else 0))
        + (if c = acrossY d ∧ s = .reg barrier then 1 else 0) + (if c = acrossX d ∧ s = .reg barrier then 1 else 0) := by
  have hB : owedFrom (oweRecvB d) 16 0 (cellAt c s) () = ∑ k : Fin 16, if c = acrossY d ∧ s = .dma (dmaOf 4 k) then narrow else 0 := by
    rw [all_apply]; exact Finset.sum_congr rfl fun k _ => at_apply c (acrossY d) _ s narrow
  have hA : owedFrom (oweRecvA d) 16 0 (cellAt c s) () = ∑ k : Fin 16, if c = acrossX d ∧ s = .dma (dmaOf 2 k) then narrow else 0 := by
    rw [all_apply]; exact Finset.sum_congr rfl fun k _ => at_apply c (acrossX d) _ s narrow
  rw [← at_apply c (acrossY d) (.reg closing) s 1, ← at_apply c (acrossX d) (.reg closing) s 1, ← hA, ← hB,
    ← at_apply c (acrossY d) (.reg barrier) s 1, ← at_apply c (acrossX d) (.reg barrier) s 1]
  rfl

theorem eq_acrossX {c d : Dev nD} : c = acrossX d ↔ d = acrossX c :=
  ⟨fun h => by rw [h, acrossX_acrossX], fun h => by rw [h, acrossX_acrossX]⟩
theorem eq_acrossY {c d : Dev nD} : c = acrossY d ↔ d = acrossY c :=
  ⟨fun h => by rw [h, acrossY_acrossY], fun h => by rw [h, acrossY_acrossY]⟩

theorem sumX (c : Dev nD) (N : ℕ) : (∑ d : Dev nD, if c = acrossX d then N else 0) = N := by
  simp only [eq_acrossX (c := c)]
  rw [Finset.sum_ite_eq' Finset.univ (acrossX c) fun _ => N, if_pos (Finset.mem_univ _)]
theorem sumY (c : Dev nD) (N : ℕ) : (∑ d : Dev nD, if c = acrossY d then N else 0) = N := by
  simp only [eq_acrossY (c := c)]
  rw [Finset.sum_ite_eq' Finset.univ (acrossY c) fun _ => N, if_pos (Finset.mem_univ _)]

theorem owed_barrier (c : Dev nD) : ∑ d : Dev nD, oweAll d (barrierCell c) () = 2 := by
  have h (d : Dev nD) : oweAll d (barrierCell c) () = (if c = acrossY d then 1 else 0) + (if c = acrossX d then 1 else 0) := by
    rw [owed_apply]
    simp only [barrier_ne_closing, reduceCtorEq, and_false, and_true, if_false, Finset.sum_const_zero, Nat.zero_add]
  rw [Finset.sum_congr rfl fun d _ => h d, Finset.sum_add_distrib, sumX, sumY]

theorem owed_closing (c : Dev nD) : ∑ d : Dev nD, oweAll d (closingCell c) () = 2 := by
  have h (d : Dev nD) : oweAll d (closingCell c) () = (if c = acrossY d then 1 else 0) + (if c = acrossX d then 1 else 0) := by
    rw [owed_apply]
    simp only [barrier_ne_closing.symm, reduceCtorEq, and_false, and_true, if_false, Finset.sum_const_zero, Nat.add_zero]
  rw [Finset.sum_congr rfl fun d _ => h d, Finset.sum_add_distrib, sumX, sumY]

theorem dma_iff {a a' : Fin 6} {k k' : Fin 16} : (SemLoc.dma (dmaOf a k) : SemLoc sig) = .dma (dmaOf a' k') ↔ a = a' ∧ k = k' :=
  ⟨fun h => dmaOf_inj (SemLoc.dma.inj h), fun h => by rw [h.1, h.2]⟩

theorem owed_recvA (c : Dev nD) (k : Fin 16) : ∑ d : Dev nD, oweAll d (recvACell c k) () = narrow := by
  have h (d : Dev nD) : oweAll d (cellAt c (.dma (dmaOf 2 k))) () = if c = acrossX d then narrow else 0 := by
    rw [owed_apply]
    simp only [dma_iff, reduceCtorEq, and_false, true_and, false_and, if_false, Finset.sum_const_zero, Nat.zero_add, Nat.add_zero,
      show ((2 : Fin 6) = 4) = False from by decide]
    by_cases hc : c = acrossX d
    · simp only [hc, true_and, if_true]
      rw [Finset.sum_ite_eq Finset.univ k fun _ => narrow, if_pos (Finset.mem_univ _)]
    · simp only [hc, false_and, if_false, Finset.sum_const_zero]
  exact (Finset.sum_congr rfl fun d _ => h d).trans (sumX c narrow)

theorem owed_recvB (c : Dev nD) (k : Fin 16) : ∑ d : Dev nD, oweAll d (recvBCell c k) () = narrow := by
  have h (d : Dev nD) : oweAll d (cellAt c (.dma (dmaOf 4 k))) () = if c = acrossY d then narrow else 0 := by
    rw [owed_apply]
    simp only [dma_iff, reduceCtorEq, and_false, true_and, false_and, if_false, Finset.sum_const_zero, Nat.zero_add, Nat.add_zero,
      show ((4 : Fin 6) = 2) = False from by decide]
    by_cases hc : c = acrossY d
    · simp only [hc, true_and, if_true]
      rw [Finset.sum_ite_eq Finset.univ k fun _ => narrow, if_pos (Finset.mem_univ _)]
    · simp only [hc, false_and, if_false, Finset.sum_const_zero]
  exact (Finset.sum_congr rfl fun d _ => h d).trans (sumY c narrow)

theorem launch_at (g : GSem nD τ sig) (N : ℕ) (h : ∑ d : Dev nD, oweAll d g () = N) :
    tallyOn g (launchCredit (Pipeline.owing oweAll) 0 g) = (tallyAt g () N : CellTallies nD τ sig Unit) := by
  unfold tallyAt
  refine congrArg _ (Finsupp.ext fun u => ?_)
  cases u
  rw [Pipeline.launchCredit_owing, Finsupp.single_eq_same, h]

theorem launch_credits (c : Dev nD) : (Pipeline.launchCred oweAll c : sProp 𝕄) ⊢ credits c := by
  unfold Pipeline.launchCred
  refine (Entails.of_eq (perCell_eq c fun g => cred (tallyOn g (launchCredit (Pipeline.owing oweAll) 0 g)))).trans ?_
  unfold perCell credits
  dsimp only
  rw [launch_at _ 2 (owed_barrier c), launch_at _ 2 (owed_closing c)]
  iintro ⟨Hb, Hc, -, -, H2, -, H4, -⟩
  isplitl [Hb]; · iexact Hb
  isplitl [Hc]; · iexact Hc
  have h2 : (each fun k => cred (tallyOn (recvACell c k) (launchCredit (Pipeline.owing oweAll) 0 (recvACell c k))) : sProp 𝕄) ⊢ each (recvACred c) :=
    bigSep_mono fun k _ => Entails.of_eq (congrArg cred (launch_at (recvACell c k) narrow (owed_recvA c k)))
  have h4 : (each fun k => cred (tallyOn (recvBCell c k) (launchCredit (Pipeline.owing oweAll) 0 (recvBCell c k))) : sProp 𝕄) ⊢ each (recvBCred c) :=
    bigSep_mono fun k _ => Entails.of_eq (congrArg cred (launch_at (recvBCell c k) narrow (owed_recvB c k)))
  isplitl [H2]; · iapply h2; iexact H2
  iapply h4; iexact H4

end Cert.KernelIdeal.Mesh

end
-- ==== Proof.KernelIdeal.Launch.lean ====
/-
The launch of the four bodies, and what every run of the program ends with.
-/
module

public import proofs.«01_k».proof.Proof.KernelIdeal.Cells

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

/-! ## The ghost state dealt at the launch -/

section Ghost

variable (X : Args F)

/-- What is minted for device `c`: its semaphores' rounds, its places in them, and the duties met there. -/
def minted (c : Dev nD) : sProp 𝕄 :=
  iprop((bigSep Finset.univ fun sm : SemLoc sig => roundState ER (sched X) (cellAt c sm) 0)
    ∗ (bigSep Finset.univ fun sm : SemLoc sig => iprop(atPos ER (cellAt c sm) 0 ∅ 0 ∗ reached ER (cellAt c sm) 0)) ∗ duesAt c)

/-- What the device's body gets of it, once the invariants are there and the duties are dealt. -/
def dealt (c : Dev nD) : sProp 𝕄 :=
  iprop(∃ K, records X K ∗ perCell c (fun g => atPos ER g 0 ∅ 0) ∗ tokens c)

theorem mint : BI.own (ER (initOf allCells allDuties)) ⊢ (|==> bigSep Finset.univ (minted X) : sProp 𝕄) := by
  have hc (Φ : GSem nD τ sig → sProp 𝕄) : bigSep allCells Φ = bigSep Finset.univ fun c : Dev nD => bigSep Finset.univ fun sm : SemLoc sig => Φ (cellAt c sm) := by
    unfold allCells; rw [bigSep_map, bigSep_univ_prod]; rfl
  have ht : bigSep allDuties (fun x => (dutyTok ER x.1 x.2.1 x.2.2 : sProp 𝕄)) = bigSep Finset.univ fun c : Dev nD => duesAt c := by
    unfold allDuties; rw [bigSep_map, bigSep_univ_prod]
    exact bigSep_congr fun c _ => duesAt_eq c
  iintro H
  imod (Rounds.fund ER (sched X) allCells allDuties) $$ H with ⟨Hs, Hr, Ha, Hd⟩
  imodintro
  ihave Hs := (Entails.of_eq (hc fun g => roundState ER (sched X) g 0)) $$ Hs
  ihave Ha := (Entails.of_eq (hc fun g => atPos ER g 0 ∅ 0)) $$ Ha
  ihave Hr := (Entails.of_eq (hc fun g => reached ER g 0)) $$ Hr
  ihave Hd := (Entails.of_eq ht) $$ Hd
  unfold minted; simp only [bigSep_sep']
  isplitl [Hs]; · iexact Hs
  isplitl [Ha Hr]
  · isplitl [Ha]; · iexact Ha
    iexact Hr
  iexact Hd

/-- A device with its invariants allocated. -/
def opened (c : Dev nD) : sProp 𝕄 :=
  iprop((bigSep Finset.univ fun sm : SemLoc sig => iprop(∃ κ : ℕ, cellInv ER (sched X) κ (cellAt c sm)))
    ∗ (bigSep Finset.univ fun sm : SemLoc sig => iprop(atPos ER (cellAt c sm) 0 ∅ 0 ∗ reached ER (cellAt c sm) 0)) ∗ duesAt c)

theorem open_cells (c : Dev nD) :
    (iprop((perCell c fun g => semVal g 0) ∗ bigSep Finset.univ fun sm : SemLoc sig => roundState ER (sched X) (cellAt c sm) 0) : sProp 𝕄)
      ⊢ |={Set.univ}=> bigSep Finset.univ fun sm : SemLoc sig => iprop(∃ κ : ℕ, cellInv ER (sched X) κ (cellAt c sm)) := by
  rw [← perCell_eq, ← bigSep_sep']
  exact (bigSep_mono fun sm _ => (Rounds.body_intro ER (sched X) (cellAt c sm)).trans inv_alloc).trans (bigSep_fupd _ _)

theorem open_device (c : Dev nD) :
    iprop(Pipeline.ownSems0 (Ix := Unit) (Name := ℕ) (U := UU) (Lvl := ℕ) (Val := Elt F) (τ := τ) ownSem c ∗ unscopedSems0 c ∗ minted X c)
      ⊢ |={Set.univ}=> opened X c := by
  unfold minted opened
  iintro ⟨Ho, Hu, Hs, Ha, Hd⟩
  ihave Hz := (sems_zero (F := F) c) $$ [Ho Hu]
  · isplitl [Ho]; · iexact Ho
    iexact Hu
  imod (open_cells X c) $$ [Hz Hs] with Hi
  · isplitl [Hz]; · iexact Hz
    iexact Hs
  imodintro
  isplitl [Hi]; · iexact Hi
  isplitl [Ha]; · iexact Ha
  iexact Hd

theorem deal_device (K : Dev nD × SemLoc sig → ℕ) (c : Dev nD) :
    iprop(records X K ∗ ((bigSep Finset.univ fun sm : SemLoc sig => (atPos ER (cellAt c sm) 0 ∅ 0 : sProp 𝕄)) ∗ tokens c)) ⊢ dealt X c := by
  rw [perCell_eq c fun g => (atPos ER g 0 ∅ 0 : sProp 𝕄)]
  unfold dealt
  iintro ⟨Hr, Ha, Ht⟩
  iexists K
  isplitl [Hr]; · iexact Hr
  isplitl [Ha]; · iexact Ha
  iexact Ht

theorem deal : (bigSep Finset.univ (opened X) : sProp 𝕄) ⊢ bigSep Finset.univ (dealt X) := by
  unfold opened
  simp only [bigSep_sep']
  rw [← bigSep_univ_prod (fun p : Dev nD × SemLoc sig => (iprop(∃ κ : ℕ, cellInv ER (sched X) κ (cellAt p.1 p.2)) : sProp 𝕄)),
    ← bigSep_univ_prod (fun p : Dev nD × SemLoc sig => (reached ER (cellAt p.1 p.2) 0 : sProp 𝕄))]
  iintro ⟨Hi, ⟨Ha, #Hr⟩, Hd⟩
  ihave Hi := (BI.bigSep_exists_pi Finset.univ (fun (p : Dev nD × SemLoc sig) (κ : ℕ) => (cellInv ER (sched X) κ (cellAt p.1 p.2) : sProp 𝕄))) $$ Hi
  icases Hi with ⟨%K, #Hi⟩
  ihave Ht := (dues_dealt (F := F)) $$ Hd
  iapply (bigSep_with_persistent (R := records X K) fun c _ => deal_device X K c)
  isplitr
  · unfold records
    isplitr; · iexact Hi
    iexact Hr
  · simp only [bigSep_sep']
    isplitl [Ha]; · iexact Ha
    iexact Ht

theorem deal_all :
    (bigSep Finset.univ fun c => iprop(Pipeline.ownSems0 (Ix := Unit) (Name := ℕ) (U := UU) (Lvl := ℕ) (Val := Elt F) (τ := τ) ownSem c
      ∗ unscopedSems0 c ∗ minted X c) : sProp 𝕄) ⊢ |={Set.univ}=> bigSep Finset.univ (dealt X) :=
  ((bigSep_mono fun c _ => open_device X c).trans (bigSep_fupd _ _)).trans (BI.fupd_mono (deal X))

end Ghost

/-! ## The run -/

section Run

variable (m : (ℓ : Loc nD τ sig) → Buf (Elt F) ℓ) (ρ : Dev nD → PrngReg)

/-- The devices' arguments. -/
def argsOf : Args F := fun c => m ((c : Thread nD τ).loc main_arg0)

/-- The memory at the launch: every semaphore at zero. -/
def launched : MemSt nD τ sig (Elt F) := ⟨m, fun _ => 0, ρ⟩

/-- What the body's caller holds for it. -/
def entering (c : Dev nD) : sProp 𝕄 :=
  iprop(dealt (argsOf m) c ∗ levAts L lv ∗ credits c ∗ ((c : Thread nD τ).loc main_arg0 ↦{fullShare} argsOf m c)
    ∗ ∃ f : Buf (Elt F) ((c : Thread nD τ).loc main_v1), (c : Thread nD τ).loc main_v1 ↦{fullShare} f)

/-- What remains of it. -/
def leaving (c : Dev nD) : sProp 𝕄 :=
  iprop(unscopedSems0 c ∗ ((c : Thread nD τ).loc main_arg0 ↦{fullShare} argsOf m c) ∗ ((c : Thread nD τ).loc main_v1 ↦{fullShare} result (argsOf m) c))

def dats (_ : Fin 1) (c : Dev nD) : Dat τ (Elt F) Unit ℕ UU ℕ cfg0 c where
  A w := w.elim0
  after w _ := w.elim0
  Φ t := match t with
    | ⟨0, _⟩ => iprop(∃ K, bodyPre (argsOf m) K c)
    | ⟨_ + 1, _⟩ => bodyPost (argsOf m) c
  q _ := fullShare
  owed t := match t with
    | ⟨0, _⟩ => oweAll c
    | ⟨_ + 1, _⟩ => 0

theorem no_windows (Φ : Fin cfg0.W → sProp 𝕄) : bigSep Finset.univ Φ = iprop(emp) := bigSep_empty

/-- The body, its debts written as the launch writes them. -/
theorem run_owing (c : Dev nD) :
    iprop((∃ K, bodyPre (argsOf m) K c) ∗ (dats (F := F) m 0 c).owesAt () t0_0.castSucc ∗ emp)
      ⊢ run c (bodyAt0 t0_0) fun _ => iprop(bodyPost (argsOf m) c ∗ (dats m 0 c).owesAt () t0_0.succ ∗ emp) := by
  rw [body_fold]
  unfold Dat.owesAt Pipeline.owesWithin run
  iintro ⟨⟨%K, Hp⟩, ⟨%W, -, Ho⟩, -⟩
  ihave Hw := (run_body (argsOf m) K c) $$ [Hp Ho]
  · isplitl [Hp]; · iexact Hp
    unfold owing
    iexists W; iexact Ho
  unfold run
  iapply (wp_wand _ _) $$ Hw
  unfold owing
  iintro %u ⟨Hq, ⟨%W', Ho⟩⟩
  isplitl [Hq]; · iexact Hq
  isplitl [Ho]
  · iexists W'
    isplitr
    · ipureintro; exact fun _ _ => Or.inl trivial
    · iexact Ho
  · iempintro

set_option maxRecDepth 65536 in
theorem body_obligation (c : Dev nD) : BodyObligation (dats (F := F) m 0 c) (defs₀ (F := F)) 𝒱₀ () Set.univ := fun t => by
  rw [fin_N0 t, no_windows, no_windows]
  exact run_owing m c

theorem share_eq (c : Dev nD) (w : Fin cfg0.W) : (dats (F := F) m 0 c).share w = fullShare := w.elim0

theorem waits (c : Dev nD) : (levAts L lv : sProp 𝕄) ⊢ Pipeline.cellsWaits cfgs (dats (F := F) m) () 0 c :=
  Pipeline.cellsWaits_intro cfgs (dats m) () 0 c fun w s t => w.elim0

theorem enter (c : Dev nD) :
    iprop(Pipeline.unscopedRestP Pipeline.Prefetch.none cfg0.spec c (fun b => m ((c : Thread nD τ).loc b)) ∗ levAts L lv
        ∗ Pipeline.launchCred oweAll c ∗ prngReg c (ρ c) ∗ dealt (argsOf m) c)
      ⊢ |={Set.univ}=> iprop(entering (F := F) m c ∗ emp) := by
  rw [Pipeline.unscopedRestP_none, unscopedRest0_eq]
  iintro ⟨⟨Hx, Hout⟩, Hl, Hc, -, Hd⟩
  ihave Hc := (launch_credits (F := F) c) $$ Hc
  imodintro
  unfold entering
  isplitl
  · isplitl [Hd]; · iexact Hd
    isplitl [Hl]; · iexact Hl
    isplitl [Hc]; · iexact Hc
    isplitl [Hx]; · iexact Hx
    iexists _; iexact Hout
  · iempintro

theorem begin_body (c : Dev nD) :
    iprop(entering (F := F) m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, bodyPre (argsOf m) K c) from rfl, scopedRest0_eq]
  unfold entering dealt bodyPre ctx scratch
  iintro ⟨⟨⟨%K, Hr, Ha, Ht⟩, Hl, Hc, Hx, Hout⟩, -, Hs⟩
  iexists K
  isplitl [Hr Hl]
  · isplitl [Hr]; · iexact Hr
    iexact Hl
  isplitl [Ha]; · iexact Ha
  isplitl [Ht]; · iexact Ht
  isplitl [Hc]; · iexact Hc
  isplitl [Hx]; · iexact Hx
  isplitl [Hout]; · iexact Hout
  iexact Hs

theorem end_body (c : Dev nD) :
    (dats (F := F) m 0 c).Φ (Fin.last cfg0.N) ⊢ iprop(leaving (F := F) m c ∗ Pipeline.ownSems0 ownSem c ∗ Pipeline.scopedRest cfg0.spec c) := by
  rw [show (dats m 0 c).Φ (Fin.last cfg0.N) = bodyPost (argsOf m) c from rfl, scopedRest0_eq]
  unfold leaving bodyPost scratch
  iintro ⟨Hz, Hx, Hout, Hs⟩
  ihave Hz := (zero_sems (F := F) c) $$ Hz
  icases Hz with ⟨Hu, Ho⟩
  isplitl [Hu Hx Hout]
  · isplitl [Hu]; · iexact Hu
    isplitl [Hx]; · iexact Hx
    iexact Hout
  isplitl [Ho]; · iexact Ho
  iexact Hs

/-- A device's part of the final state. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = argsOf m c ∧ s.mem ((c : Thread nD τ).loc main_v1) = result (argsOf m) c

theorem read_ends (c : Dev nD) (s' : Phys nD τ sig (Elt F)) :
    iprop(leaving (F := F) m c ∗ emp ∗ SI s') ⊢ |={Set.univ}=> iprop(⌜Ends m c s'.mem⌝ ∗ SI s') := by
  have hr (b : Ref sig .tc) (f : Buf (Elt F) ((c : Thread nD τ).loc b)) :
      iprop(((c : Thread nD τ).loc b ↦{fullShare} f : sProp 𝕄) ∗ SI s') ⊢ iprop(⌜s'.mem.mem ((c : Thread nD τ).loc b) = f⌝ ∗ SI s') := by
    have h := pointsTo_read_all (Ix := Unit) (Name := ℕ) (U := UU) (Lvl := ℕ) ({()} : Finset Unit) (fun _ => (c : Thread nD τ).loc b) (fun _ => f) s'
    rw [bigSep_singleton] at h
    exact h.trans (sep_mono_left (BI.pure_mono fun h => h () (Finset.mem_singleton_self _)))
  unfold leaving Ends
  iintro ⟨⟨Hu, Hx, Hout⟩, -, HSI⟩
  ihave H := (hr main_arg0 _) $$ [Hx HSI]
  · isplitl [Hx]; · iexact Hx
    iexact HSI
  icases H with ⟨%h0, HSI⟩
  ihave H := (hr main_v1 _) $$ [Hout HSI]
  · isplitl [Hout]; · iexact Hout
    iexact HSI
  icases H with ⟨%h1, HSI⟩
  ihave %h2 := (tcUnscoped_read c s') $$ [Hu HSI]
  · isplitl [Hu]; · iexact Hu
    iexact HSI
  imodintro
  isplitr
  · ipureintro; exact ⟨h2, h0, h1⟩
  iexact HSI

def ghost₀ : UU :=
  (initOf (Pipeline.cells cfgs cellOf_inj) (Pipeline.launchToks cfgs cellOf_inj), initOf allCells allDuties)

set_option maxRecDepth 65536 in
/-- From any memory with its semaphores at zero, at any float values: every weakly fair execution ends, with
    each device's argument as it was, its result the two halves' sum, and every semaphore back at zero. -/
theorem run_main : θ_run defs (onTc (τ := τ) (main (F := F))) (launched m ρ) (fun r =>
    (∀ c : Dev nD, r.2.mem ((c : Thread nD τ).loc main_arg0) = argsOf m c ∧ r.2.mem ((c : Thread nD τ).loc main_v1) = result (argsOf m) c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := oweAll) (howed₀ := fun _ => rfl) (howedN := fun _ => rfl)
    (L := L) (lv := lv) (hL := L_of_ne) (hwaits := waits m)
    (G := minted (argsOf m)) (G' := dealt (argsOf m)) (u₀ := ghost₀)
    (hu₀ := by
      unfold ghost₀
      iintro H
      ihave H := (ownU_pair _ _) $$ H
      icases H with ⟨Hp, H⟩
      imod (mint (argsOf m)) $$ H with H
      imodintro
      isplitl [Hp]; · iexact Hp
      iexact H)
    (hglob := deal_all (argsOf m))
    (hA := fun _ w => w.elim0) (hpf := fun _ k => k.elim0)
    (X := entering m) (Y := leaving m) (Z := fun _ => iprop(emp))
    (hX := enter m ρ) (hin := begin_body m) (hout := end_body m)
    (QY := Ends m) (hY := read_ends m)
    (hQ := fun _ h hs => ⟨fun c => (h c).2.2.2, sem_eq_zero hs fun c => (h c).2.2.1⟩)

end Run

end Cert.KernelIdeal.Mesh

end
-- ==== Proof.Value.lean ====
/-
The value: what the four devices leave, and what the reference leaves, are the sum of the whole array's two halves.
-/
module

public import proofs.«01_k».proof.Proof.KernelIdeal.Launch
public import proofs.«01_k».proof.Proof.Gen.ReferenceIdeal.Run
public import Idealize.ShloMosaic.Lib.Layout
public import Idealize.ShloMosaic.Lib.IdealHost
public import Idealize.ShloMosaic.Lib.Pointwise
public import Idealize.ShloMosaic.Lib.Pipeline.Value
public import Idealize.ShloMosaic.PureOps.Ideal

@[expose] public section

noncomputable section

namespace Cert.Halves

open Idealize.ShloMosaic

/-- A whole array, and one of half its rows. -/
abbrev Whole : Shape := ⟨2, ![32768, 1024]⟩
abbrev Half : Shape := ⟨2, ![16384, 1024]⟩

/-- Row `i` of half `b`. -/
def rowIn (b : Fin 2) (i : Half.Idx) : Whole.Idx :=
  ix2 (⟨16384 * b.val + (i 0).val, by have := (i 0).isLt; have := b.isLt; simp at *; omega⟩ : Fin 32768) (i 1)

/-- The sum of the two halves. -/
def total (W : Whole.Idx → EReal) : Half.Idx → EReal := fun i => W (rowIn 0 i) + W (rowIn 1 i)

/-! ## The reference -/

theorem reference_total (W : FVec Ideal Whole .f32) (h1 : FTy.bits .bf16 < FTy.bits .f32) (h2 : Whole.ShapeCasts ⟨3, ![2, 16384, 1024]⟩)
    (h3 : (⟨3, ![2, 16384, 1024]⟩ : Shape).ReducesTo [0] Half) (h4 : 0 < (⟨0, ![]⟩ : Shape).numel) :
    (truncf .bf16 (Host.reduceAdd (extf .f32 (shapeCast (⟨3, ![2, 16384, 1024]⟩ : Shape) (truncf .bf16 W h1) h2) h1)
      (constant (⟨0, ![]⟩ : Shape) .f32 0x00000000#32) h3 h4) h1 : FVec Ideal Half .bf16) = total W := by
  funext i
  simp only [pointwise]
  rw [zero_add, Fin.sum_univ_two]
  have e (b : Fin 2) (hb : b.val * 16384 + (i 0).val < 32768) :
      (ix2 (⟨b.val * 16384 + (i 0).val, hb⟩ : Fin 32768) (i 1) : Whole.Idx) = rowIn b i := by
    unfold rowIn
    exact congrArg (fun r : Fin 32768 => (ix2 r (i 1) : Whole.Idx)) (Fin.ext (congrArg (· + (i 0).val) (Nat.mul_comm b.val 16384)))
  exact congrArg₂ (fun a b => W a + W b) (e 0 _) (e 1 _)

/-! ## The kernel -/

open Cert.KernelIdeal Cert.KernelIdeal.Mesh

/-- A device holds the half its first coordinate names. -/
theorem block_row (c : Dev nD) (hb : c.val / 2 < 2) (W : Whole.Idx → EReal) (i : Half.Idx) :
    Layout.blockN Half Whole (Layout.meshBlock [2, 2] ![[0], []] c) W (by decide) i = W (rowIn ⟨c.val / 2, hb⟩ i) := by
  rw [Layout.blockN_apply]
  refine congrArg W (funext fun a => Fin.ext ?_)
  have hc : Layout.meshLin [2, 2] c.val [0] = c.val / 2 := by revert c; decide
  rw [Layout.TilesN.idx_val]
  match a with
  | ⟨0, _⟩ =>
    show Layout.meshLin [2, 2] c.val [0] * 16384 + (i 0).val = 16384 * (c.val / 2) + (i 0).val
    rw [hc]; omega
  | ⟨1, _⟩ =>
    show Layout.meshLin [2, 2] c.val [] * 1024 + (i 1).val = (i 1).val
    rw [show Layout.meshLin [2, 2] c.val [] = 0 from rfl]; omega

/-- The device whose sums lie in row `i` of device `c`'s result. -/
def maker (c : Dev nD) (i : Half.Idx) : Dev nD := if (i 0).val / 8192 = c.val % 2 then c else acrossY c

theorem maker_column (c : Dev nD) (i : Half.Idx) : (maker c i).val % 2 = (i 0).val / 8192 := by
  have h : (i 0).val < 16384 := (i 0).isLt
  unfold maker
  split
  · next e => exact e.symm
  · next e => rw [acrossY_column]; omega

theorem maker_row (c : Dev nD) (i : Half.Idx) (d : Dev nD) (hd : d.val % 2 = (i 0).val / 8192) :
    rowOf (d.val % 2) ((lowRow ((i 0).val % 8192) (i 1)) 0).val ((lowRow ((i 0).val % 8192) (i 1)) 1) = i := by
  have h : (i 0).val < 16384 := (i 0).isLt
  have hl := lowRow_val ((i 0).val % 8192) (i 1) (by omega)
  have hr := rowOf_val (d.val % 2) ((lowRow ((i 0).val % 8192) (i 1)) 0).val (i 1) (by omega) (by omega)
  funext a
  match a with
  | ⟨0, _⟩ => exact Fin.ext (hr.trans (by rw [hl, hd]; exact Nat.div_add_mod (i 0).val 8192))
  | ⟨1, _⟩ => rfl

theorem result_apply (X : Args Ideal) (c : Dev nD) (i : Half.Idx) :
    result X c i = (X (acrossX (maker c i)) i : EReal) + X (maker c i) i := by
  have h : result X c i = (X (acrossX (maker c i)) (rowOf ((acrossX (maker c i)).val % 2) ((lowRow ((i 0).val % 8192) (i 1)) 0).val ((lowRow ((i 0).val % 8192) (i 1)) 1)) : EReal)
      + X (maker c i) (rowOf ((maker c i).val % 2) ((lowRow ((i 0).val % 8192) (i 1)) 0).val ((lowRow ((i 0).val % 8192) (i 1)) 1)) := rfl
  rw [h, maker_row c i _ ((acrossX_column _).trans (maker_column c i)), maker_row c i _ (maker_column c i)]

theorem kernel_total (W : Whole.Idx → EReal) (X : Args Ideal)
    (h : ∀ c, X c = Layout.blockN Half Whole (Layout.meshBlock [2, 2] ![[0], []] c) W) (c : Dev nD) :
    result X c = total W := by
  funext i
  rw [result_apply, h, h]
  generalize maker c i = d
  have hd : d.val / 2 < 2 := by revert d; decide
  have hx : (acrossX d).val / 2 < 2 := by revert d; decide +kernel
  rw [block_row d hd, block_row (acrossX d) hx]
  have hv : (d.val / 2 = 0 ∧ (acrossX d).val / 2 = 1) ∨ (d.val / 2 = 1 ∧ (acrossX d).val / 2 = 0) := by
    rw [acrossX_val]; omega
  unfold total
  obtain ⟨e, e'⟩ | ⟨e, e'⟩ := hv
  · rw [show (⟨d.val / 2, hd⟩ : Fin 2) = 0 from Fin.ext e, show (⟨(acrossX d).val / 2, hx⟩ : Fin 2) = 1 from Fin.ext e', add_comm]
  · rw [show (⟨d.val / 2, hd⟩ : Fin 2) = 1 from Fin.ext e, show (⟨(acrossX d).val / 2, hx⟩ : Fin 2) = 0 from Fin.ext e']

end Cert.Halves

end
-- ==== Proof.lean ====
/-
The certificate of the statement's claims. The programs' runs are proved in Proof/KernelIdeal/ (its last module is Launch),
the arithmetic of the value in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.KernelIdeal.Mesh Cert.Halves

set_option maxRecDepth 65536 in
/-- The idealized program is the program's own text, no operation rewritten, and its run is proved at any float
    values: at the bit-exact ones it is the run of the program itself. -/
theorem frame_kernel : Cert.quiescent_Kernel := fun m g _ =>
  (θ_run Cert.Kernel.defs _ _).mono (fun r h => ⟨fun c => (h.1 c).1, h.2⟩) (run_main (F := Bits) m g)

theorem frame_kernelIdeal : Cert.quiescent_KernelIdeal := fun m g _ =>
  (θ_run Cert.KernelIdeal.defs _ _).mono (fun r h => ⟨fun c => (h.1 c).1, h.2⟩) (run_main (F := Ideal) m g)

/-- The reference declares no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result, and the reference's, is the sum of the whole array's two halves. -/
theorem algebraic : Cert.algebraic_KernelIdeal_ReferenceIdeal := fun m g m' g' _ hagree =>
  ⟨total (m' (((0 : Dev Cert.ReferenceIdeal.nD).tc : Thread Cert.ReferenceIdeal.nD Cert.ReferenceIdeal.τ).loc Cert.ReferenceIdeal.main_arg0)),
    (θ_run Cert.KernelIdeal.defs _ _).mono
      (fun r h c => ⟨(h.1 c).2.trans (kernel_total _ (argsOf m) hagree c), (h.1 c).1⟩) (run_main (F := Ideal) m g),
    (θ_run Cert.ReferenceIdeal.defs _ _).mono
      (fun r h => ⟨(h 0).1.trans (reference_total _ _ _ _ _), (h 0).2⟩) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
